-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "qscale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x1024 : Shape := ⟨3, ![8, 2048, 1024]⟩
abbrev S2x1024x2304 : Shape := ⟨3, ![2, 1024, 2304]⟩
abbrev S2x4x128x128 : Shape := ⟨4, ![2, 4, 128, 128]⟩
abbrev S2x512 : Shape := ⟨2, ![2, 512]⟩
abbrev S2x8 : Shape := ⟨2, ![2, 8]⟩
abbrev S2x1024x1024 : Shape := ⟨3, ![2, 1024, 1024]⟩
abbrev S2x1024 : Shape := ⟨2, ![2, 1024]⟩
abbrev S_ : Shape := ⟨0, ![]⟩

class Facts : Prop where
  bcast_S_S2x1024x2304 : S_.BroadcastsInDim S2x1024x2304 (![] : Fin 0 → Fin S2x1024x2304.rank)
  bcast_S_S2x8 : S_.BroadcastsInDim S2x8 (![] : Fin 0 → Fin S2x8.rank)
  bcast_S_S2x1024 : S_.BroadcastsInDim S2x1024 (![] : Fin 0 → Fin S2x1024.rank)

variable [Facts]

def fn {F : FTy → Type} [FloatOps F] (main_arg0 : FVec F S8x2048x1024 .f32) (main_arg1 : FVec F S2x1024x2304 .f32) (main_arg2 : FVec F S2x4x128x128 .f32) (main_arg3 : FVec F S2x512 .f32) (main_arg4 : FVec F S2x8 .f32) (main_arg5 : FVec F S2x1024x1024 .f32) (main_arg6 : FVec F S2x1024 .f32) (main_arg7 : FVec F S2x1024 .f32) : IVec S2x1024x2304 1 × IVec S2x8 1 × IVec S2x1024 1 :=
  let main_v0 : FVec F S2x1024x2304 .f32 := Host.absf main_arg1
  let main_cst : FVec F S_ .f32 := constant S_ .f32 0x7F800000#32
  let main_v1 : FVec F S2x1024x2304 .f32 := broadcastInDim S2x1024x2304 ![] bcast_S_S2x1024x2304 main_cst
  let main_v2 : IVec S2x1024x2304 1 := cmpf .olt main_v0 main_v1
  let main_v3 : FVec F S2x8 .f32 := Host.absf main_arg4
  let main_cst_0 : FVec F S_ .f32 := constant S_ .f32 0x7F800000#32
  let main_v4 : FVec F S2x8 .f32 := broadcastInDim S2x8 ![] bcast_S_S2x8 main_cst_0
  let main_v5 : IVec S2x8 1 := cmpf .olt main_v3 main_v4
  let main_v6 : FVec F S2x1024 .f32 := Host.absf main_arg6
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  (main_v2, main_v5, main_v8)
-- ==== Kernel.lean ====
abbrev S8x2048x1024 : Shape := ⟨3, ![8, 2048, 1024]⟩
abbrev S2x1024x2304 : Shape := ⟨3, ![2, 1024, 2304]⟩
abbrev S2x4x128x128 : Shape := ⟨4, ![2, 4, 128, 128]⟩
abbrev S2x512 : Shape := ⟨2, ![2, 512]⟩
abbrev S2x8 : Shape := ⟨2, ![2, 8]⟩
abbrev S2x1024x1024 : Shape := ⟨3, ![2, 1024, 1024]⟩
abbrev S2x1024 : Shape := ⟨2, ![2, 1024]⟩
abbrev S1x1024x1024 : Shape := ⟨3, ![1, 1024, 1024]⟩
abbrev S1x1024x2304 : Shape := ⟨3, ![1, 1024, 2304]⟩
abbrev S1x4x128x128 : Shape := ⟨4, ![1, 4, 128, 128]⟩
abbrev S1040x512 : Shape := ⟨2, ![1040, 512]⟩
abbrev S1024x512 : Shape := ⟨2, ![1024, 512]⟩
abbrev S2x1152x128 : Shape := ⟨3, ![2, 1152, 128]⟩
abbrev S128x1152 : Shape := ⟨2, ![128, 1152]⟩
abbrev S1024x1024 : Shape := ⟨2, ![1024, 1024]⟩
abbrev S3x384x256 : Shape := ⟨3, ![3, 384, 256]⟩
abbrev S1024x2304 : Shape := ⟨2, ![1024, 2304]⟩
abbrev S2x256x256 : Shape := ⟨3, ![2, 256, 256]⟩
abbrev S192x256 : Shape := ⟨2, ![192, 256]⟩
abbrev S1x192x256 : Shape := ⟨3, ![1, 192, 256]⟩
abbrev S512x512 : Shape := ⟨2, ![512, 512]⟩
abbrev S1x1024x512 : Shape := ⟨3, ![1, 1024, 512]⟩
abbrev S1x1024x256 : Shape := ⟨3, ![1, 1024, 256]⟩
abbrev S1024x256 : Shape := ⟨2, ![1024, 256]⟩
abbrev S1x512x1024 : Shape := ⟨3, ![1, 512, 1024]⟩
abbrev S512x1024 : Shape := ⟨2, ![512, 1024]⟩
abbrev S1x1x128x128 : Shape := ⟨4, ![1, 1, 128, 128]⟩
abbrev S128x128 : Shape := ⟨2, ![128, 128]⟩
abbrev S1x128x128 : Shape := ⟨3, ![1, 128, 128]⟩
abbrev S16x512 : Shape := ⟨2, ![16, 512]⟩
abbrev S2x128x128 : Shape := ⟨3, ![2, 128, 128]⟩
abbrev S1024 : Shape := ⟨1, ![1024]⟩
abbrev S1024x1 : Shape := ⟨2, ![1024, 1]⟩
abbrev S1x1024 : Shape := ⟨2, ![1, 1024]⟩
abbrev S1024x1280 : Shape := ⟨2, ![1024, 1280]⟩
abbrev S1024x128 : Shape := ⟨2, ![1024, 128]⟩
abbrev S1x128 : Shape := ⟨2, ![1, 128]⟩
abbrev S1x1024x128 : Shape := ⟨3, ![1, 1024, 128]⟩
abbrev S128x1024 : Shape := ⟨2, ![128, 1024]⟩
abbrev S1x256 : Shape := ⟨2, ![1, 256]⟩
abbrev S1x1 : Shape := ⟨2, ![1, 1]⟩
abbrev S64x256 : Shape := ⟨2, ![64, 256]⟩
abbrev S16x256 : Shape := ⟨2, ![16, 256]⟩
abbrev S64x128 : Shape := ⟨2, ![64, 128]⟩
abbrev S256x128 : Shape := ⟨2, ![256, 128]⟩
abbrev S1x192x128 : Shape := ⟨3, ![1, 192, 128]⟩
abbrev S192x128 : Shape := ⟨2, ![192, 128]⟩
abbrev S384x128 : Shape := ⟨2, ![384, 128]⟩
abbrev S384x256 : Shape := ⟨2, ![384, 256]⟩
abbrev S1x384x256 : Shape := ⟨3, ![1, 384, 256]⟩
abbrev S256 : Shape := ⟨1, ![256]⟩
abbrev S256x256 : Shape := ⟨2, ![256, 256]⟩
abbrev S80x256 : Shape := ⟨2, ![80, 256]⟩
abbrev S1040x128 : Shape := ⟨2, ![1040, 128]⟩
abbrev S1x256x256 : Shape := ⟨3, ![1, 256, 256]⟩
abbrev S512 : Shape := ⟨1, ![512]⟩
abbrev S512x1 : Shape := ⟨2, ![512, 1]⟩

abbrev nBuf : Space → Nat
  | .hbm => 9
  | .vmem => 22
  | .smem => 1
  | _ => 0

abbrev bufTy : (tb : Table) → Fin (tcTables nBuf tb) → BufTy
  | .hbm, ⟨0, _⟩ => ⟨S8x2048x1024, .f32⟩
  | .hbm, ⟨1, _⟩ => ⟨S2x1024x2304, .f32⟩
  | .hbm, ⟨2, _⟩ => ⟨S2x4x128x128, .f32⟩
  | .hbm, ⟨3, _⟩ => ⟨S2x512, .f32⟩
  | .hbm, ⟨4, _⟩ => ⟨S2x8, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x2304, .f32⟩
  | .local _ .vmem, ⟨3, _⟩ => ⟨S1x4x128x128, .f32⟩
  | .local _ .vmem, ⟨4, _⟩ => ⟨S2x512, .f32⟩
  | .local _ .vmem, ⟨5, _⟩ => ⟨S1x1024x1024, .f32⟩
  | .local _ .vmem, ⟨6, _⟩ => ⟨S2x1024, .f32⟩
  | .local _ .vmem, ⟨7, _⟩ => ⟨S2x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1040x512, .f32⟩
  | .local _ .vmem, ⟨11, _⟩ => ⟨S1024x512, .bf16⟩
  | .local _ .vmem, ⟨12, _⟩ => ⟨S2x1152x128, .bf16⟩
  | .local _ .vmem, ⟨13, _⟩ => ⟨S128x1152, .bf16⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x1024, .bf16⟩
  | .local _ .vmem, ⟨18, _⟩ => ⟨S3x384x256, .f32⟩
  | .local _ .vmem, ⟨19, _⟩ => ⟨S1024x2304, .bf16⟩
  | .local _ .vmem, ⟨20, _⟩ => ⟨S1024x1024, .bf16⟩
  | .local _ .vmem, ⟨21, _⟩ => ⟨S2x256x256, .bf16⟩
  | .local _ .smem, ⟨0, _⟩ => ⟨S2x8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 2], ![false, false]⟩

def k0_off1 (i : grid0.Coords) (c2_i32 : BitVec 32) : Fin 3 → Nat :=
  let arg1 : BitVec 32 := BitVec.ofNat 32 (i 1).val
  let c0_i32_49 : BitVec 32 := 0#32
  let v126 : BitVec 1 := Scalar.cmpi .eq arg1 c0_i32_49
  let c0_i32_52 : BitVec 32 := 0#32
  let v129 : BitVec 32 := Scalar.select v126 c2_i32 c0_i32_52
  let v141 : Index := Scalar.indexCast v129
  let c0_66 : Index := 0#32
  let c0_67 : Index := 0#32
  ![v141.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some ((8⁻¹ * (Real.log 2)⁻¹ : ℝ) : EReal)
  | _ => none
-- ==== ReferenceIdeal.lean ====
abbrev S8x2048x1024 : Shape := ⟨3, ![8, 2048, 1024]⟩
abbrev S2x1024x2304 : Shape := ⟨3, ![2, 1024, 2304]⟩
abbrev S2x4x128x128 : Shape := ⟨4, ![2, 4, 128, 128]⟩
abbrev S2x512 : Shape := ⟨2, ![2, 512]⟩
abbrev S2x8 : Shape := ⟨2, ![2, 8]⟩
abbrev S2x1024x1024 : Shape := ⟨3, ![2, 1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2304 : Shape := ⟨3, ![1, 1024, 2304]⟩
abbrev S1024x2304 : Shape := ⟨2, ![1024, 2304]⟩
abbrev S8x2048x2304 : Shape := ⟨3, ![8, 2048, 2304]⟩
abbrev S8x2048x512 : Shape := ⟨3, ![8, 2048, 512]⟩
abbrev S8x2048x128 : Shape := ⟨3, ![8, 2048, 128]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S8x2048x4x128 : Shape := ⟨4, ![8, 2048, 4, 128]⟩
abbrev S4 : Shape := ⟨1, ![4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S4x8x128x2048 : Shape := ⟨4, ![4, 8, 128, 2048]⟩
abbrev S1x4 : Shape := ⟨2, ![1, 4]⟩
abbrev S2048x4 : Shape := ⟨2, ![2048, 4]⟩
abbrev S1x2048x4x1 : Shape := ⟨4, ![1, 2048, 4, 1]⟩
abbrev S4x128x8x2048 : Shape := ⟨4, ![4, 128, 8, 2048]⟩
abbrev S1x1x512 : Shape := ⟨3, ![1, 1, 512]⟩
abbrev S1x8 : Shape := ⟨2, ![1, 8]⟩
abbrev S8 : Shape := ⟨1, ![8]⟩
abbrev S8x2048x2x4x64 : Shape := ⟨5, ![8, 2048, 2, 4, 64]⟩
abbrev S8x2048x2x64 : Shape := ⟨4, ![8, 2048, 2, 64]⟩
abbrev S8x2x2048x2048x4 : Shape := ⟨5, ![8, 2, 2048, 2048, 4]⟩
abbrev S8x2x4x2048x2048 : Shape := ⟨5, ![8, 2, 4, 2048, 2048]⟩
abbrev S2x4 : Shape := ⟨2, ![2, 4]⟩
abbrev S2x4x1x1 : Shape := ⟨4, ![2, 4, 1, 1]⟩
abbrev S1x1x2048x2048 : Shape := ⟨4, ![1, 1, 2048, 2048]⟩
abbrev S2x4x2048x2048 : Shape := ⟨4, ![2, 4, 2048, 2048]⟩
abbrev S1x2x4x2048x2048 : Shape := ⟨5, ![1, 2, 4, 2048, 2048]⟩
abbrev S8x2x4x2048x1 : Shape := ⟨5, ![8, 2, 4, 2048, 1]⟩
abbrev S8x2x4x2048x2049 : Shape := ⟨5, ![8, 2, 4, 2048, 2049]⟩
abbrev S8x2x4x2048 : Shape := ⟨4, ![8, 2, 4, 2048]⟩
abbrev S8x2x64x4x2048 : Shape := ⟨5, ![8, 2, 64, 4, 2048]⟩
abbrev S1x1024x1024 : Shape := ⟨3, ![1, 1024, 1024]⟩
abbrev S1024x1024 : Shape := ⟨2, ![1024, 1024]⟩

abbrev nBuf : Space → Nat
  | .hbm => 198
  | .vmem => 0
  | .smem => 0
  | _ => 0

abbrev hbmTy0_0 (i : Nat) : BufTy := match i % 128 with
  | 0 => ⟨S8x2048x1024, .f32⟩
  | 1 => ⟨S2x1024x2304, .f32⟩
  | 2 => ⟨S2x4x128x128, .f32⟩
  | 3 => ⟨S2x512, .f32⟩
  | 4 => ⟨S2x8, .f32⟩
  | 5 => ⟨S2x1024x1024, .f32⟩
  | 6 => ⟨S2x1024, .f32⟩
  | 7 => ⟨S2x1024, .f32⟩
  | 8 => ⟨S1x1024, .f32⟩
  | 9 => ⟨S1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S1x1024x2304, .f32⟩
  | 27 => ⟨S1024x2304, .f32⟩
  | 28 => ⟨S8x2048x2304, .f32⟩
  | 29 => ⟨S8x2048x512, .f32⟩
  | 30 => ⟨S8x2048x512, .f32⟩
  | 31 => ⟨S8x2048x512, .f32⟩
  | 32 => ⟨S8x2048x128, .f32⟩
  | 33 => ⟨S8x2048x128, .f32⟩
  | 34 => ⟨S8x2048x512, .f32⟩
  | 35 => ⟨S1x4x128x128, .f32⟩
  | 36 => ⟨S4x128x128, .f32⟩
  | 37 => ⟨S1x512, .f32⟩
  | 38 => ⟨S512, .f32⟩
  | 39 => ⟨S8x2048x4x128, .f32⟩
  | 40 => ⟨S_, .i32⟩
  | 41 => ⟨S4, .i32⟩
  | 42 => ⟨S4, .i32⟩
  | 43 => ⟨S4, .i32⟩
  | 44 => ⟨S2048, .i32⟩
  | 45 => ⟨S2048x1, .i32⟩
  | 46 => ⟨S1x2048, .i32⟩
  | 47 => ⟨S2048x2048, .i32⟩
  | 48 => ⟨S2048x2048, .i32⟩
  | 49 => ⟨S2048x2048, .i32⟩
  | 50 => ⟨S_, .i32⟩
  | 51 => ⟨S2048x2048, .i32⟩
  | 52 => ⟨S2048x2048, .i1⟩
  | 53 => ⟨S1x2048x2048, .i1⟩
  | 54 => ⟨S1x2048x2048, .i32⟩
  | 55 => ⟨S4x1x1, .i32⟩
  | 56 => ⟨S4x2048x2048, .i32⟩
  | 57 => ⟨S4x2048x2048, .i32⟩
  | 58 => ⟨S4x2048x2048, .i1⟩
  | 59 => ⟨S4x2048x2048, .i1⟩
  | 60 => ⟨S4x2048x2048, .i1⟩
  | 61 => ⟨S_, .f32⟩
  | 62 => ⟨S_, .f32⟩
  | 63 => ⟨S4x2048x2048, .f32⟩
  | 64 => ⟨S4x2048x2048, .f32⟩
  | 65 => ⟨S4x2048x2048, .f32⟩
  | 66 => ⟨S4x8x128x2048, .f32⟩
  | 67 => ⟨S8x2048x4x128, .f32⟩
  | 68 => ⟨S2048x1, .i32⟩
  | 69 => ⟨S_, .i32⟩
  | 70 => ⟨S2048x1, .i32⟩
  | 71 => ⟨S2048x1, .i32⟩
  | 72 => ⟨S1x4, .i32⟩
  | 73 => ⟨S2048x4, .i32⟩
  | 74 => ⟨S2048x4, .i32⟩
  | 75 => ⟨S2048x4, .i32⟩
  | 76 => ⟨S1x2048x4x1, .i32⟩
  | 77 => ⟨S1x2048x4x1, .f32⟩
  | 78 => ⟨S8x2048x4x128, .f32⟩
  | 79 => ⟨S8x2048x4x128, .f32⟩
  | 80 => ⟨S8x2048x4x128, .f32⟩
  | 81 => ⟨S4x128x8x2048, .f32⟩
  | 82 => ⟨S8x2048x4x128, .f32⟩
  | 83 => ⟨S8x2048x512, .f32⟩
  | 84 => ⟨S1x1x512, .f32⟩
  | 85 => ⟨S8x2048x512, .f32⟩
  | 86 => ⟨S8x2048x512, .f32⟩
  | 87 => ⟨S8x2048x512, .f32⟩
  | 88 => ⟨S8x2048x512, .f32⟩
  | 89 => ⟨S_, .f32⟩
  | 90 => ⟨S8x2048x512, .f32⟩
  | 91 => ⟨S8x2048x512, .f32⟩
  | 92 => ⟨S_, .f32⟩
  | 93 => ⟨S8x2048x512, .f32⟩
  | 94 => ⟨S8x2048x512, .f32⟩
  | 95 => ⟨S8x2048x512, .f32⟩
  | 96 => ⟨S8x2048x512, .f32⟩
  | 97 => ⟨S1x8, .f32⟩
  | 98 => ⟨S8, .f32⟩
  | 99 => ⟨S8x2048x2x4x64, .f32⟩
  | 100 => ⟨S8x2048x2x64, .f32⟩
  | 101 => ⟨S8x2048x2x64, .f32⟩
  | 102 => ⟨S8x2x2048x2048x4, .f32⟩
  | 103 => ⟨S8x2x4x2048x2048, .f32⟩
  | 104 => ⟨S_, .f32⟩
  | 105 => ⟨S8x2x4x2048x2048, .f32⟩
  | 106 => ⟨S8x2x4x2048x2048, .f32⟩
  | 107 => ⟨S2048, .i32⟩
  | 108 => ⟨S2048x1, .i32⟩
  | 109 => ⟨S1x2048, .i32⟩
  | 110 => ⟨S2048x2048, .i32⟩
  | 111 => ⟨S2048x2048, .i32⟩
  | 112 => ⟨S2048x2048, .i32⟩
  | 113 => ⟨S_, .i32⟩
  | 114 => ⟨S2048x2048, .i32⟩
  | 115 => ⟨S2048x2048, .i1⟩
  | 116 => ⟨S_, .i32⟩
  | 117 => ⟨S2048x2048, .i32⟩
  | 118 => ⟨S2048x2048, .i1⟩
  | 119 => ⟨S2048x2048, .i1⟩
  | 120 => ⟨S_, .i32⟩
  | 121 => ⟨S8, .i32⟩
  | 122 => ⟨S8, .i32⟩
  | 123 => ⟨S8, .i32⟩
  | 124 => ⟨S8, .f32⟩
  | 125 => ⟨S_, .f32⟩
  | 126 => ⟨S8, .f32⟩
  | 127 => ⟨S8, .f32⟩
  | _ => ⟨S8x2048x1024, .f32⟩

abbrev hbmTy0_1 (i : Nat) : BufTy := match i % 128 with
  | 0 => ⟨S2x4, .f32⟩
  | 1 => ⟨S2x4x1x1, .f32⟩
  | 2 => ⟨S2x4x1x1, .f32⟩
  | 3 => ⟨S2048x2048, .f32⟩
  | 4 => ⟨S1x1x2048x2048, .f32⟩
  | 5 => ⟨S2x4x2048x2048, .f32⟩
  | 6 => ⟨S2x4x2048x2048, .f32⟩
  | 7 => ⟨S2x4x2048x2048, .f32⟩
  | 8 => ⟨S1x2x4x2048x2048, .f32⟩
  | 9 => ⟨S8x2x4x2048x2048, .f32⟩
  | 10 => ⟨S8x2x4x2048x2048, .f32⟩
  | 11 => ⟨S_, .f32⟩
  | 12 => ⟨S_, .f32⟩
  | 13 => ⟨S8x2x4x2048x2048, .i1⟩
  | 14 => ⟨S8x2x4x2048x2048, .f32⟩
  | 15 => ⟨S8x2x4x2048x2048, .f32⟩
  | 16 => ⟨S2x4x1x1, .f32⟩
  | 17 => ⟨S8x2x4x2048x1, .f32⟩
  | 18 => ⟨S8x2x4x2048x2049, .f32⟩
  | 19 => ⟨S_, .f32⟩
  | 20 => ⟨S8x2x4x2048, .f32⟩
  | 21 => ⟨S_, .f32⟩
  | 22 => ⟨S8x2x4x2048, .f32⟩
  | 23 => ⟨S8x2x4x2048, .f32⟩
  | 24 => ⟨S8x2x4x2048x1, .f32⟩
  | 25 => ⟨S8x2x4x2048x2049, .f32⟩
  | 26 => ⟨S8x2x4x2048x2049, .f32⟩
  | 27 => ⟨S8x2x4x2048x2049, .f32⟩
  | 28 => ⟨S_, .f32⟩
  | 29 => ⟨S8x2x4x2048, .f32⟩
  | 30 => ⟨S8x2x4x2048x1, .f32⟩
  | 31 => ⟨S8x2x4x2048x2049, .f32⟩
  | 32 => ⟨S8x2x4x2048x2049, .f32⟩
  | 33 => ⟨S8x2x4x2048x2048, .f32⟩
  | 34 => ⟨S8x2x64x4x2048, .f32⟩
  | 35 => ⟨S8x2048x2x4x64, .f32⟩
  | 36 => ⟨S8x2048x512, .f32⟩
  | 37 => ⟨S8x2048x512, .f32⟩
  | 38 => ⟨S8x2048x512, .f32⟩
  | 39 => ⟨S_, .f32⟩
  | 40 => ⟨S8x2048x512, .f32⟩
  | 41 => ⟨S8x2048x512, .f32⟩
  | 42 => ⟨S_, .f32⟩
  | 43 => ⟨S8x2048x512, .f32⟩
  | 44 => ⟨S8x2048x512, .f32⟩
  | 45 => ⟨S8x2048x512, .f32⟩
  | 46 => ⟨S8x2048x512, .f32⟩
  | 47 => ⟨S8x2048x1024, .f32⟩
  | 48 => ⟨S1x1024x1024, .f32⟩
  | 49 => ⟨S1024x1024, .f32⟩
  | 50 => ⟨S8x2048x1024, .f32⟩
  | 51 => ⟨S1x1024, .f32⟩
  | 52 => ⟨S1024, .f32⟩
  | 53 => ⟨S8x2048x1024, .f32⟩
  | 54 => ⟨S_, .f32⟩
  | 55 => ⟨S8x2048, .f32⟩
  | 56 => ⟨S8x2048x1, .f32⟩
  | 57 => ⟨S_, .f32⟩
  | 58 => ⟨S8x2048x1, .f32⟩
  | 59 => ⟨S8x2048x1, .f32⟩
  | 60 => ⟨S_, .f32⟩
  | 61 => ⟨S8x2048x1, .f32⟩
  | 62 => ⟨S8x2048x1, .f32⟩
  | 63 => ⟨S8x2048x1, .f32⟩
  | 64 => ⟨S8x2048x1024, .f32⟩
  | 65 => ⟨S8x2048x1024, .f32⟩
  | 66 => ⟨S1x1x1024, .f32⟩
  | 67 => ⟨S8x2048x1024, .f32⟩
  | 68 => ⟨S8x2048x1024, .f32⟩
  | 69 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_cst_4 : Ref sig .tc := ⟨.hbm, 62, rfl⟩
abbrev main_call0_v0 : Ref sig .tc := ⟨.hbm, 63, rfl⟩
abbrev main_call0_v1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_6 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_7 : Ref sig .tc := ⟨.hbm, 113, rfl⟩
abbrev main_v86 : Ref sig .tc := ⟨.hbm, 114, rfl⟩
abbrev main_v87 : Ref sig .tc := ⟨.hbm, 115, rfl⟩
abbrev main_c_8 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_9 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_10 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_11 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_12 : Ref sig .tc := ⟨.hbm, 147, rfl⟩
abbrev main_v112 : Ref sig .tc := ⟨.hbm, 148, rfl⟩
abbrev main_cst_13 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_14 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_call3_v0 : Ref sig .tc := ⟨.hbm, 165, rfl⟩
abbrev main_call3_v1 : Ref sig .tc := ⟨.hbm, 166, rfl⟩
abbrev main_call3_cst : Ref sig .tc := ⟨.hbm, 167, rfl⟩
abbrev main_call3_v2 : Ref sig .tc := ⟨.hbm, 168, rfl⟩
abbrev main_call3_v3 : Ref sig .tc := ⟨.hbm, 169, rfl⟩
abbrev main_call3_cst_0 : Ref sig .tc := ⟨.hbm, 170, rfl⟩
abbrev main_call3_v4 : Ref sig .tc := ⟨.hbm, 171, rfl⟩
abbrev main_call3_v5 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_15 : Ref sig .tc := ⟨.hbm, 182, rfl⟩
abbrev main_v136 : Ref sig .tc := ⟨.hbm, 183, rfl⟩
abbrev main_v137 : Ref sig .tc := ⟨.hbm, 184, rfl⟩
abbrev main_cst_16 : Ref sig .tc := ⟨.hbm, 185, rfl⟩
abbrev main_v138 : Ref sig .tc := ⟨.hbm, 186, rfl⟩
abbrev main_v139 : Ref sig .tc := ⟨.hbm, 187, rfl⟩
abbrev main_cst_17 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩

abbrev nD : Nat := 1
abbrev τ : Topo := Topo.v7x

variable {F : FTy → Type} [FloatOps F]
-- ==== Proof.Block.lean ====
/-
  One block of 64 queries of the attention, as the kernel's vector operations compute it, and what it is at an index.
-/
module

public import proofs.«01_k».proof.Proof.Gen.KernelIdeal.Skeleton
public import Idealize.ShloMosaic.Lib.Pointwise
public import Idealize.ShloMosaic.Lib.ValueIdx

@[expose] public section

set_option maxRecDepth 16384

noncomputable section

namespace Cert.Layer

open Idealize.ShloMosaic Idealize.ShloMosaic.TcCoe
open Cert.KernelIdeal Cert.KernelIdeal.Gen

/-! ## The operations -/

/-- The scores of 64 queries of four heads against 192 keys of both key heads, with the bias. -/
def blockScores (k0 k1 : FVec Ideal S1x192x128 .bf16) (q0 q1 q2 q3 : FVec Ideal S64x128 .bf16)
    (b : FVec Ideal S384x256 .f32) : FVec Ideal S384x256 .f32 :=
  addf (matmul dot_S384x128_S256x128_S384x256_1_1_0_0_n_n none
    (concatenate S384x128 0 [⟨S192x128, shapeCast S192x128 k0 shapeCasts_S1x192x128_S192x128⟩,
      ⟨S192x128, shapeCast S192x128 k1 shapeCasts_S1x192x128_S192x128⟩] concatenates_S192x128_S192x128_S384x128_d0)
    (concatenate S256x128 0 [⟨S64x128, q0⟩, ⟨S64x128, q1⟩, ⟨S64x128, q2⟩, ⟨S64x128, q3⟩]
      concatenates_S64x128_S64x128_S64x128_S64x128_S256x128_d0)
    (constant S384x256 .f32 0x00000000#32)) b

/-- The largest score of each query's column, the sink's among them. -/
def colMax (s : FVec Ideal S192x256 .f32) (sk : FVec Ideal S1x256 .f32) : FVec Ideal S1x256 .f32 :=
  maximumf (shapeCast S1x256 (multiReduction .maximumf [0] S256 s 0xFF800000#32 reduces_S192x256_S256 (.inl rfl) rfl)
    shapeCasts_S256_S1x256) sk

/-- The exponentials of the scores less their column's largest. -/
def colExp (s : FVec Ideal S192x256 .f32) (sk : FVec Ideal S1x256 .f32) : FVec Ideal S192x256 .bf16 :=
  truncf .bf16 (exp2 (subf s (broadcastTo S192x256 (colMax s sk) broadcasts_S1x256_S192x256))) bitsLt_bf16_f32

/-- The exponentials above 64 rows of zeros. -/
def padBelow (p : FVec Ideal S192x256 .bf16) : FVec Ideal S256x256 .bf16 :=
  concatenate S256x256 0 [⟨S192x256, p⟩, ⟨S64x256, k0_pay52 (F := Ideal)⟩] concatenates_S192x256_S64x256_S256x256_d0

/-- The exponentials below 64 rows of zeros. -/
def padAbove (p : FVec Ideal S192x256 .bf16) : FVec Ideal S256x256 .bf16 :=
  concatenate S256x256 0 [⟨S64x256, k0_pay52 (F := Ideal)⟩, ⟨S192x256, p⟩] concatenates_S64x256_S192x256_S256x256_d0

/-- The product of the values, with rows of ones below them, and the padded exponentials. -/
def valueSums (vt : FVec Ideal S64x256 .bf16) (pb : FVec Ideal S256x256 .bf16) : FVec Ideal S80x256 .f32 :=
  matmul dot_S80x256_S256x256_S80x256_1_0_0_1_n_n none
    (concatenate S80x256 0 [⟨S64x256, vt⟩, ⟨S16x256, k0_pay53 (F := Ideal)⟩] concatenates_S64x256_S16x256_S80x256_d0)
    pb (constant S80x256 .f32 0x00000000#32)

/-- The head outputs of one key head: the value sums over the exponentials' sum, the sink's among them. -/
def headOut (o : FVec Ideal S80x256 .f32) (mx sk : FVec Ideal S1x256 .f32) : FVec Ideal S64x256 .f32 :=
  mulf (extractStridedSlice S64x256 ![0, 0] o slices_S80x256_o0_0_S64x256)
    (broadcastTo S64x256 (divf (broadcast S1x256 (Scalar.ofBits .f32 0x3F800000#32))
      (addf (extractStridedSlice S1x256 ![64, 0] o slices_S80x256_o64_0_S1x256) (exp2 (subf sk mx))))
      broadcasts_S1x256_S64x256)

/-- The scores of the first key head. -/
def lowScores (s : FVec Ideal S384x256 .f32) : FVec Ideal S192x256 .f32 :=
  extractStridedSlice S192x256 ![0, 0] s slices_S384x256_o0_0_S192x256

/-- The scores of the second key head. -/
def highScores (s : FVec Ideal S384x256 .f32) : FVec Ideal S192x256 .f32 :=
  extractStridedSlice S192x256 ![192, 0] s slices_S384x256_o192_0_S192x256

/-- What one key head gives its four query heads, with the exponentials padded by `pad`. -/
def keyHead (pad : FVec Ideal S192x256 .bf16 → FVec Ideal S256x256 .bf16) (s : FVec Ideal S192x256 .f32)
    (sk : FVec Ideal S1x256 .f32) (vt : FVec Ideal S64x256 .bf16) : FVec Ideal S64x256 .f32 :=
  headOut (valueSums vt (pad (colExp s sk))) (colMax s sk) sk

/-- Query heads 0 and 1 of both key heads, a row per query. -/
def pairT0 (o0 o1 : FVec Ideal S64x256 .f32) : FVec Ideal S128x128 .f32 :=
  transpose S128x128 [1, 0] (concatenate S128x128 0
    [⟨S64x128, extractStridedSlice S64x128 ![0, 0] o0 slices_S64x256_o0_0_S64x128⟩,
      ⟨S64x128, extractStridedSlice S64x128 ![0, 0] o1 slices_S64x256_o0_0_S64x128⟩]
    concatenates_S64x128_S64x128_S128x128_d0) transposes_S128x128_p1_0_S128x128

/-- Query heads 2 and 3 of both key heads, a row per query. -/
def pairT1 (o0 o1 : FVec Ideal S64x256 .f32) : FVec Ideal S128x128 .f32 :=
  transpose S128x128 [1, 0] (concatenate S128x128 0
    [⟨S64x128, extractStridedSlice S64x128 ![0, 128] o0 slices_S64x256_o0_128_S64x128⟩,
      ⟨S64x128, extractStridedSlice S64x128 ![0, 128] o1 slices_S64x256_o0_128_S64x128⟩]
    concatenates_S64x128_S64x128_S128x128_d0) transposes_S128x128_p1_0_S128x128

/-- The first head of a pair, gated. -/
def gate0 (t : FVec Ideal S128x128 .f32) (ag : FVec Ideal S64x128 .f32) : FVec Ideal S64x128 .bf16 :=
  shapeCast S64x128 (truncf .bf16 (mulf (extractStridedSlice S64x128 ![0, 0] t slices_S128x128_o0_0_S64x128) ag)
    bitsLt_bf16_f32) shapeCasts_S64x128_S64x128

/-- The second head of a pair, gated. -/
def gate1 (t : FVec Ideal S128x128 .f32) (ag : FVec Ideal S64x128 .f32) : FVec Ideal S64x128 .bf16 :=
  shapeCast S64x128 (truncf .bf16 (mulf (extractStridedSlice S64x128 ![64, 0] t slices_S128x128_o64_0_S64x128) ag)
    bitsLt_bf16_f32) shapeCasts_S64x128_S64x128

/-! ## At an index -/

theorem colMax_apply (s : FVec Ideal S192x256 .f32) (sk : FVec Ideal S1x256 .f32) (j : Fin 256) :
    colMax s sk (ix2 0 j) = max (Finset.univ.fold max ⊥ fun k : Fin 192 => s (ix2 k j)) (sk (ix2 0 j)) := by
  pointwise [colMax]
  rw [show Ideal.ofBits FTy.f32 4286578688#32 = ⊥ by simp [Ideal.ofBits, Ideal.ieee]]

theorem colExp_apply (s : FVec Ideal S192x256 .f32) (sk : FVec Ideal S1x256 .f32) (r : Fin 192) (j : Fin 256) :
    colExp s sk (ix2 r j) = Ideal.exp2 (s (ix2 r j) - colMax s sk (ix2 0 j)) := by
  pointwise [colExp]
  rfl

theorem headOut_apply (o : FVec Ideal S80x256 .f32) (mx sk : FVec Ideal S1x256 .f32) (e : Fin 64) (j : Fin 256) :
    headOut o mx sk (ix2 e j)
      = o (ix2 ⟨e, by omega⟩ j) * Ideal.div 1 (o (ix2 64 j) + Ideal.exp2 (sk (ix2 0 j) - mx (ix2 0 j))) := by
  pointwise [headOut]
  rfl

theorem valueSums_apply (vt : FVec Ideal S64x256 .bf16) (pb : FVec Ideal S256x256 .bf16) (e : Fin 64) (j : Fin 256) :
    valueSums vt pb (ix2 ⟨e, by omega⟩ j) = ∑ k : Fin 256, vt (ix2 e k) * pb (ix2 k j) := by
  pointwise [valueSums]

theorem valueSums_ones (vt : FVec Ideal S64x256 .bf16) (pb : FVec Ideal S256x256 .bf16) (j : Fin 256) :
    valueSums vt pb (ix2 64 j) = ∑ k : Fin 256, pb (ix2 k j) := by
  pointwise [valueSums, k0_pay53]

theorem padBelow_apply (p : FVec Ideal S192x256 .bf16) (k j : Fin 256) :
    padBelow p (ix2 k j) = if h : (k : ℕ) < 192 then p (ix2 ⟨k, h⟩ j) else 0 := by
  pointwise [padBelow, k0_pay52]

theorem padAbove_apply (p : FVec Ideal S192x256 .bf16) (k j : Fin 256) :
    padAbove p (ix2 k j) = if h : (k : ℕ) < 64 then 0 else p (ix2 ⟨k - 64, by omega⟩ j) := by
  pointwise [padAbove, k0_pay52]

/-- A sum over 192 rows below which there are 64 rows of zeros. -/
theorem sum_padBelow (f : Fin 256 → EReal) (g : Fin 192 → EReal) (h : ∀ k : Fin 192, f ⟨k, by omega⟩ = g k)
    (h0 : ∀ k : Fin 256, 192 ≤ (k : ℕ) → f k = 0) : ∑ k, f k = ∑ k, g k := by
  have := Fin.sum_univ_add (a := 192) (b := 64) f
  rw [show (∑ k : Fin 256, f k) = ∑ k : Fin (192 + 64), f k from rfl, this,
    Finset.sum_eq_zero (s := (Finset.univ : Finset (Fin 64))) (fun k _ => h0 _ (by simp)), add_zero]
  exact Finset.sum_congr rfl fun k _ => h k

/-- A sum over 192 rows above which there are 64 rows of zeros. -/
theorem sum_padAbove (f : Fin 256 → EReal) (g : Fin 192 → EReal) (h : ∀ k : Fin 192, f ⟨64 + k, by omega⟩ = g k)
    (h0 : ∀ k : Fin 256, (k : ℕ) < 64 → f k = 0) : ∑ k, f k = ∑ k, g k := by
  have := Fin.sum_univ_add (a := 64) (b := 192) f
  rw [show (∑ k : Fin 256, f k) = ∑ k : Fin (64 + 192), f k from rfl, this,
    Finset.sum_eq_zero (s := (Finset.univ : Finset (Fin 64))) (fun k _ => h0 _ (by simp)), zero_add]
  exact Finset.sum_congr rfl fun k _ => h k

/-! ## The formula -/

/-- The largest of 192 scores and a sink. -/
def topScore (s : ℕ → EReal) (sk : EReal) : EReal := max (Finset.univ.fold max ⊥ fun k : Fin 192 => s k) sk

/-- Softmax with a sink over 192 scores, in powers of two, applied to 192 values. -/
def sinkMean (s : ℕ → EReal) (sk : EReal) (v : ℕ → EReal) : EReal :=
  (∑ k : Fin 192, v k * Ideal.exp2 (s k - topScore s sk))
    * Ideal.div 1 ((∑ k : Fin 192, Ideal.exp2 (s k - topScore s sk)) + Ideal.exp2 (sk - topScore s sk))

theorem keyHead_below (s : FVec Ideal S192x256 .f32) (sk : FVec Ideal S1x256 .f32) (vt : FVec Ideal S64x256 .bf16)
    (S : ℕ → EReal) (K : EReal) (V : ℕ → EReal) (e : Fin 64) (j : Fin 256)
    (hs : ∀ k : Fin 192, s (ix2 k j) = S k) (hk : sk (ix2 0 j) = K)
    (hv : ∀ k : Fin 192, vt (ix2 e ⟨k, by omega⟩) = V k) :
    keyHead padBelow s sk vt (ix2 e j) = sinkMean S K V := by
  have hm : colMax s sk (ix2 0 j) = topScore S K := by rw [colMax_apply, hk]; simp only [hs]; rfl
  rw [keyHead, headOut_apply, valueSums_apply, valueSums_ones, hm, hk]
  rw [sum_padBelow _ (fun k => V k * Ideal.exp2 (S k - topScore S K))
    (fun k => by rw [padBelow_apply, dif_pos k.2, hv k, colExp_apply, hm, hs k])
    (fun k h => by rw [padBelow_apply, dif_neg (by omega), mul_zero])]
  rw [sum_padBelow _ (fun k => Ideal.exp2 (S k - topScore S K))
    (fun k => by rw [padBelow_apply, dif_pos k.2, colExp_apply, hm, hs k])
    (fun k h => by rw [padBelow_apply, dif_neg (by omega)])]
  rfl

theorem keyHead_above (s : FVec Ideal S192x256 .f32) (sk : FVec Ideal S1x256 .f32) (vt : FVec Ideal S64x256 .bf16)
    (S : ℕ → EReal) (K : EReal) (V : ℕ → EReal) (e : Fin 64) (j : Fin 256)
    (hs : ∀ k : Fin 192, s (ix2 k j) = S k) (hk : sk (ix2 0 j) = K)
    (hv : ∀ k : Fin 192, vt (ix2 e ⟨64 + k, by omega⟩) = V k) :
    keyHead padAbove s sk vt (ix2 e j) = sinkMean S K V := by
  have hm : colMax s sk (ix2 0 j) = topScore S K := by rw [colMax_apply, hk]; simp only [hs]; rfl
  have hp (k : Fin 192) (h : ¬ 64 + (k : ℕ) < 64) : (⟨64 + k - 64, by omega⟩ : Fin 192) = k :=
    Fin.ext (by simp)
  rw [keyHead, headOut_apply, valueSums_apply, valueSums_ones, hm, hk]
  rw [sum_padAbove _ (fun k => V k * Ideal.exp2 (S k - topScore S K))
    (fun k => by rw [padAbove_apply, dif_neg (by simp), hv k, hp k (by simp), colExp_apply, hm, hs k])
    (fun k h => by rw [padAbove_apply, dif_pos h, mul_zero])]
  rw [sum_padAbove _ (fun k => Ideal.exp2 (S k - topScore S K))
    (fun k => by rw [padAbove_apply, dif_neg (by simp), hp k (by simp), colExp_apply, hm, hs k])
    (fun k h => by rw [padAbove_apply, dif_pos h])]
  rfl

theorem gate0_pair0 (o0 o1 : FVec Ideal S64x256 .f32) (ag : FVec Ideal S64x128 .f32) (c : Fin 64) (l : Fin 128) :
    gate0 (pairT0 o0 o1) ag (ix2 c l) = (if h : (l : ℕ) < 64 then o0 (ix2 ⟨l, h⟩ ⟨64 * 0 + c, by omega⟩)
      else o1 (ix2 ⟨l - 64, by omega⟩ ⟨64 * 0 + c, by omega⟩)) * ag (ix2 c l) := by
  pointwise [gate0, pairT0]

theorem gate1_pair0 (o0 o1 : FVec Ideal S64x256 .f32) (ag : FVec Ideal S64x128 .f32) (c : Fin 64) (l : Fin 128) :
    gate1 (pairT0 o0 o1) ag (ix2 c l) = (if h : (l : ℕ) < 64 then o0 (ix2 ⟨l, h⟩ ⟨64 * 1 + c, by omega⟩)
      else o1 (ix2 ⟨l - 64, by omega⟩ ⟨64 * 1 + c, by omega⟩)) * ag (ix2 c l) := by
  pointwise [gate1, pairT0]

theorem gate0_pair1 (o0 o1 : FVec Ideal S64x256 .f32) (ag : FVec Ideal S64x128 .f32) (c : Fin 64) (l : Fin 128) :
    gate0 (pairT1 o0 o1) ag (ix2 c l) = (if h : (l : ℕ) < 64 then o0 (ix2 ⟨l, h⟩ ⟨64 * 2 + c, by omega⟩)
      else o1 (ix2 ⟨l - 64, by omega⟩ ⟨64 * 2 + c, by omega⟩)) * ag (ix2 c l) := by
  pointwise [gate0, pairT1]

theorem gate1_pair1 (o0 o1 : FVec Ideal S64x256 .f32) (ag : FVec Ideal S64x128 .f32) (c : Fin 64) (l : Fin 128) :
    gate1 (pairT1 o0 o1) ag (ix2 c l) = (if h : (l : ℕ) < 64 then o0 (ix2 ⟨l, h⟩ ⟨64 * 3 + c, by omega⟩)
      else o1 (ix2 ⟨l - 64, by omega⟩ ⟨64 * 3 + c, by omega⟩)) * ag (ix2 c l) := by
  pointwise [gate1, pairT1]
  have h : 128 + (64 + (c : ℕ)) = 192 + c := by omega
  simp only [h]

/-- Four blocks of 64 rows one below the other, read through the block and the row within it. -/
theorem four_rows (Q : ℕ → ℕ → EReal) (q0 q1 q2 q3 : FVec Ideal S64x128 .bf16) (j : Fin 256) (l : Fin 128)
    (h0 : ∀ (c : Fin 64) (l : Fin 128), q0 (ix2 c l) = Q c (128 * 0 + l))
    (h1 : ∀ (c : Fin 64) (l : Fin 128), q1 (ix2 c l) = Q c (128 * 1 + l))
    (h2 : ∀ (c : Fin 64) (l : Fin 128), q2 (ix2 c l) = Q c (128 * 2 + l))
    (h3 : ∀ (c : Fin 64) (l : Fin 128), q3 (ix2 c l) = Q c (128 * 3 + l)) :
    (if h : (j : ℕ) < 64 then q0 (ix2 ⟨j, h⟩ l) else if h : (j : ℕ) - 64 < 64 then q1 (ix2 ⟨j - 64, h⟩ l)
      else if h : (j : ℕ) - 64 - 64 < 64 then q2 (ix2 ⟨j - 64 - 64, h⟩ l)
      else q3 (ix2 ⟨j - 64 - 64 - 64, by omega⟩ l)) = Q (j % 64) (128 * (j / 64) + l) := by
  split_ifs with a b c
  · rw [h0]; congr 1 <;> (try simp only) <;> omega
  · rw [h1]; congr 1 <;> (try simp only) <;> omega
  · rw [h2]; congr 1 <;> (try simp only) <;> omega
  · rw [h3]; congr 1 <;> (try simp only) <;> omega

theorem blockScores_low (k0 k1 : FVec Ideal S1x192x128 .bf16) (q0 q1 q2 q3 : FVec Ideal S64x128 .bf16)
    (b : FVec Ideal S384x256 .f32) (r : Fin 192) (j : Fin 256) (K Q : ℕ → ℕ → EReal) (B : EReal)
    (hk : ∀ l : Fin 128, k0 (ix3 0 r l) = K r l) (hb : b (ix2 ⟨r, by omega⟩ j) = B)
    (h0 : ∀ (c : Fin 64) (l : Fin 128), q0 (ix2 c l) = Q c (128 * 0 + l))
    (h1 : ∀ (c : Fin 64) (l : Fin 128), q1 (ix2 c l) = Q c (128 * 1 + l))
    (h2 : ∀ (c : Fin 64) (l : Fin 128), q2 (ix2 c l) = Q c (128 * 2 + l))
    (h3 : ∀ (c : Fin 64) (l : Fin 128), q3 (ix2 c l) = Q c (128 * 3 + l)) :
    lowScores (blockScores k0 k1 q0 q1 q2 q3 b) (ix2 r j)
      = (∑ l : Fin 128, K r l * Q (j % 64) (128 * (j / 64) + l)) + B := by
  pointwise [lowScores, blockScores]
  rw [hb]
  exact congrArg (· + B) (Finset.sum_congr rfl fun l _ => by rw [hk, four_rows Q q0 q1 q2 q3 j l h0 h1 h2 h3])

theorem blockScores_high (k0 k1 : FVec Ideal S1x192x128 .bf16) (q0 q1 q2 q3 : FVec Ideal S64x128 .bf16)
    (b : FVec Ideal S384x256 .f32) (r : Fin 192) (j : Fin 256) (K Q : ℕ → ℕ → EReal) (B : EReal)
    (hk : ∀ l : Fin 128, k1 (ix3 0 r l) = K r l) (hb : b (ix2 ⟨192 + r, by omega⟩ j) = B)
    (h0 : ∀ (c : Fin 64) (l : Fin 128), q0 (ix2 c l) = Q c (128 * 0 + l))
    (h1 : ∀ (c : Fin 64) (l : Fin 128), q1 (ix2 c l) = Q c (128 * 1 + l))
    (h2 : ∀ (c : Fin 64) (l : Fin 128), q2 (ix2 c l) = Q c (128 * 2 + l))
    (h3 : ∀ (c : Fin 64) (l : Fin 128), q3 (ix2 c l) = Q c (128 * 3 + l)) :
    highScores (blockScores k0 k1 q0 q1 q2 q3 b) (ix2 r j)
      = (∑ l : Fin 128, K r l * Q (j % 64) (128 * (j / 64) + l)) + B := by
  pointwise [highScores, blockScores]
  rw [hb]
  exact congrArg (· + B) (Finset.sum_congr rfl fun l _ => by rw [hk, four_rows Q q0 q1 q2 q3 j l h0 h1 h2 h3])

/-! ## A whole block -/

/-- What the buffers hold, by coordinates: the scaled queries, the keys of the two key heads (zero in the other's
    lanes), the values a row per lane, the bias, the sinks, the gate. -/
structure Buffers where
  /-- The scaled queries. -/
  Q : ℕ → ℕ → EReal
  /-- The keys of a key head. -/
  K : ℕ → ℕ → ℕ → EReal
  /-- The values, transposed. -/
  V : ℕ → ℕ → EReal
  /-- The sinks of a key head. -/
  SK : ℕ → ℕ → EReal
  /-- The gate. -/
  AG : ℕ → ℕ → EReal

/-- The attention of the block of queries that begins at row `r0`, under the bias `B`. -/
def Buffers.att (b : Buffers) (B : ℕ → ℕ → EReal) (r0 kv g c e : ℕ) : EReal :=
  sinkMean (fun k => (∑ l : Fin 128, b.K kv (r0 + k) l * b.Q (r0 + c) (128 * g + l)) + B (192 * kv + k) (64 * g + c))
    (b.SK kv (64 * g + c)) (fun k => b.V (64 * kv + e) (r0 + k))

/-- What the vectors that a block reads hold: the block's queries, 192 keys, the bias, the sinks, 256 values from the
    row `c0` on. -/
structure Reads (b : Buffers) (B : ℕ → ℕ → EReal) (r0 c0 : ℕ) (k0 k1 : FVec Ideal S1x192x128 .bf16)
    (q0 q1 q2 q3 : FVec Ideal S64x128 .bf16) (bi : FVec Ideal S384x256 .f32) (s0 s1 : FVec Ideal S1x256 .f32)
    (v0 v1 : FVec Ideal S64x256 .bf16) : Prop where
  k0 : ∀ (r : Fin 192) (l : Fin 128), k0 (ix3 0 r l) = b.K 0 (r0 + r) l
  k1 : ∀ (r : Fin 192) (l : Fin 128), k1 (ix3 0 r l) = b.K 1 (r0 + r) l
  q0 : ∀ (c : Fin 64) (l : Fin 128), q0 (ix2 c l) = b.Q (r0 + c) (128 * 0 + l)
  q1 : ∀ (c : Fin 64) (l : Fin 128), q1 (ix2 c l) = b.Q (r0 + c) (128 * 1 + l)
  q2 : ∀ (c : Fin 64) (l : Fin 128), q2 (ix2 c l) = b.Q (r0 + c) (128 * 2 + l)
  q3 : ∀ (c : Fin 64) (l : Fin 128), q3 (ix2 c l) = b.Q (r0 + c) (128 * 3 + l)
  bi : ∀ (r : Fin 384) (j : Fin 256), bi (ix2 r j) = B r j
  s0 : ∀ j : Fin 256, s0 (ix2 0 j) = b.SK 0 j
  s1 : ∀ j : Fin 256, s1 (ix2 0 j) = b.SK 1 j
  v0 : ∀ (e : Fin 64) (j : Fin 256), v0 (ix2 e j) = b.V e (c0 + j)
  v1 : ∀ (e : Fin 64) (j : Fin 256), v1 (ix2 e j) = b.V (64 + e) (c0 + j)

section whole

variable {b : Buffers} {B : ℕ → ℕ → EReal} {r0 c0 : ℕ} {k0 k1 : FVec Ideal S1x192x128 .bf16}
  {q0 q1 q2 q3 : FVec Ideal S64x128 .bf16} {bi : FVec Ideal S384x256 .f32} {s0 s1 : FVec Ideal S1x256 .f32}
  {v0 v1 : FVec Ideal S64x256 .bf16}

theorem Reads.low (h : Reads b B r0 c0 k0 k1 q0 q1 q2 q3 bi s0 s1 v0 v1) (r : Fin 192) (j : Fin 256) :
    lowScores (blockScores k0 k1 q0 q1 q2 q3 bi) (ix2 r j)
      = (∑ l : Fin 128, b.K 0 (r0 + r) l * b.Q (r0 + j % 64) (128 * (j / 64) + l)) + B (192 * 0 + r) (64 * (j / 64) + j % 64) :=
  blockScores_low k0 k1 q0 q1 q2 q3 bi r j (fun r l => b.K 0 (r0 + r) l) (fun c l => b.Q (r0 + c) l) _
    (h.k0 r) ((h.bi _ _).trans (by congr 1 <;> (try simp only) <;> omega)) h.q0 h.q1 h.q2 h.q3

theorem Reads.high (h : Reads b B r0 c0 k0 k1 q0 q1 q2 q3 bi s0 s1 v0 v1) (r : Fin 192) (j : Fin 256) :
    highScores (blockScores k0 k1 q0 q1 q2 q3 bi) (ix2 r j)
      = (∑ l : Fin 128, b.K 1 (r0 + r) l * b.Q (r0 + j % 64) (128 * (j / 64) + l)) + B (192 * 1 + r) (64 * (j / 64) + j % 64) :=
  blockScores_high k0 k1 q0 q1 q2 q3 bi r j (fun r l => b.K 1 (r0 + r) l) (fun c l => b.Q (r0 + c) l) _
    (h.k1 r) ((h.bi _ _).trans (by congr 1 <;> (try simp only) <;> omega)) h.q0 h.q1 h.q2 h.q3

/-- The two key heads' outputs, the exponentials padded below: the values are read from the block's first key on. -/
theorem Reads.below (h : Reads b B r0 c0 k0 k1 q0 q1 q2 q3 bi s0 s1 v0 v1) (hc : c0 = r0) :
    (∀ (e : Fin 64) (j : Fin 256), keyHead padBelow (lowScores (blockScores k0 k1 q0 q1 q2 q3 bi)) s0 v0 (ix2 e j)
        = b.att B r0 0 (j / 64) (j % 64) e)
    ∧ ∀ (e : Fin 64) (j : Fin 256), keyHead padBelow (highScores (blockScores k0 k1 q0 q1 q2 q3 bi)) s1 v1 (ix2 e j)
        = b.att B r0 1 (j / 64) (j % 64) e := by
  subst hc
  refine ⟨fun e j => keyHead_below _ _ _ _ _ _ e j (fun k => h.low k j) ((h.s0 j).trans ?_) fun k => ?_,
    fun e j => keyHead_below _ _ _ _ _ _ e j (fun k => h.high k j) ((h.s1 j).trans ?_) fun k => ?_⟩
  · congr 1; omega
  · rw [h.v0]; congr 1; omega
  · congr 1; omega
  · rw [h.v1]

/-- The two key heads' outputs, the exponentials padded above: the values are read from 64 keys before the block's
    first on. -/
theorem Reads.above (h : Reads b B r0 c0 k0 k1 q0 q1 q2 q3 bi s0 s1 v0 v1) (hc : c0 + 64 = r0) :
    (∀ (e : Fin 64) (j : Fin 256), keyHead padAbove (lowScores (blockScores k0 k1 q0 q1 q2 q3 bi)) s0 v0 (ix2 e j)
        = b.att B r0 0 (j / 64) (j % 64) e)
    ∧ ∀ (e : Fin 64) (j : Fin 256), keyHead padAbove (highScores (blockScores k0 k1 q0 q1 q2 q3 bi)) s1 v1 (ix2 e j)
        = b.att B r0 1 (j / 64) (j % 64) e := by
  subst hc
  refine ⟨fun e j => keyHead_above _ _ _ _ _ _ e j (fun k => h.low k j) ((h.s0 j).trans ?_) fun k => ?_,
    fun e j => keyHead_above _ _ _ _ _ _ e j (fun k => h.high k j) ((h.s1 j).trans ?_) fun k => ?_⟩
  · congr 1; omega
  · rw [h.v0]; congr 1 <;> (try simp only) <;> omega
  · congr 1; omega
  · rw [h.v1]; congr 1; (try simp only); omega

/-- A head's gated output, lane by lane: the first 64 lanes are the first key head's. -/
theorem gated (o0 o1 : FVec Ideal S64x256 .f32) (ag : FVec Ideal S64x128 .f32) (g : ℕ) (hg : g < 4)
    (h : (∀ (e : Fin 64) (j : Fin 256), o0 (ix2 e j) = b.att B r0 0 (j / 64) (j % 64) e)
      ∧ ∀ (e : Fin 64) (j : Fin 256), o1 (ix2 e j) = b.att B r0 1 (j / 64) (j % 64) e)
    (ha : ∀ (c : Fin 64) (l : Fin 128), ag (ix2 c l) = b.AG (r0 + c) (128 * g + l)) (c : Fin 64) (l : Fin 128) :
    (if h : (l : ℕ) < 64 then o0 (ix2 ⟨l, h⟩ ⟨64 * g + c, by omega⟩)
      else o1 (ix2 ⟨l - 64, by omega⟩ ⟨64 * g + c, by omega⟩)) * ag (ix2 c l)
      = b.att B r0 (l / 64) g c (l % 64) * b.AG (r0 + c) (128 * g + l) := by
  have e1 : (64 * g + (c : ℕ)) / 64 = g := by omega
  have e2 : (64 * g + (c : ℕ)) % 64 = c := by omega
  rw [ha]
  split_ifs with hl
  · rw [h.1]; simp only [e1, e2, show (l : ℕ) / 64 = 0 by omega, show (l : ℕ) % 64 = l by omega]
  · rw [h.2]; simp only [e1, e2, show (l : ℕ) / 64 = 1 by omega, show (l : ℕ) % 64 = l - 64 by omega]

end whole

end Cert.Layer

end
-- ==== Proof.Tile.lean ====
/-
  One tile of 1024 tokens: what the kernel's buffers and its result hold, as formulas of coordinates, and the kernel's
  vector operations outside the attention blocks, each at an index.
-/
module

public import proofs.«01_k».proof.Proof.Block
public import Idealize.ShloMosaic.Lib.WordCmp

@[expose] public section

set_option maxRecDepth 16384

noncomputable section

namespace Cert.Layer

open Idealize.ShloMosaic Idealize.ShloMosaic.TcCoe
open Cert.KernelIdeal Cert.KernelIdeal.Gen

/-! ## The formulas -/

/-- The reciprocal root of the mean square of 1024 numbers, with the small number the layer adds. -/
def rootMean (x : ℕ → EReal) : EReal :=
  Ideal.rsqrt (Ideal.div (∑ k : Fin 1024, x k * x k) (Ideal.ofBits FTy.f32 1149239296#32)
    + Ideal.ofBits FTy.f32 897988541#32)

/-- The swish of a number, with the reciprocal first. -/
def swish (z : EReal) : EReal := z * Ideal.div 1 (1 + Ideal.exp (0 - z))

/-- A sequence plus itself `s` places earlier. -/
def twice (s : ℕ) (f : ℕ → EReal) (n : ℕ) : EReal := f n + f (n - s)

/-- The sum of the last `2 ^ g` members of a sequence, by doubling. -/
def lastSum : ℕ → (ℕ → EReal) → ℕ → EReal
  | 0, f => f
  | g + 1, f => twice (2 ^ g) (lastSum g f)

/-- A tile's data: its rows of the layer's input, the weights in the order the kernel keeps them, the bias tables, the
    rows that the previous tile left, and the tile's number in its sequence. -/
structure Tile where
  /-- The layer's input. -/
  X : ℕ → ℕ → EReal
  /-- The gain of the first normalization. -/
  GP : ℕ → EReal
  /-- The input weights. -/
  WI : ℕ → ℕ → EReal
  /-- The pool's weights, two channel groups together. -/
  PW : ℕ → ℕ → ℕ → EReal
  /-- The pool's scale. -/
  PS : ℕ → EReal
  /-- The sinks. -/
  SK : ℕ → EReal
  /-- The output weights. -/
  WO : ℕ → ℕ → EReal
  /-- The gain of the second normalization. -/
  GO : ℕ → EReal
  /-- The bias tables. -/
  BI : ℕ → ℕ → ℕ → EReal
  /-- The last 16 rows of the previous tile's pool input. -/
  HU : ℕ → ℕ → EReal
  /-- The last 128 rows of the previous tile's keys. -/
  HK : ℕ → ℕ → ℕ → EReal
  /-- The last 128 rows of the previous tile's values, transposed. -/
  HV : ℕ → ℕ → EReal
  /-- The tile's number. -/
  T : ℕ

namespace Tile

variable (t : Tile)

/-- The normalized input. -/
def h (r d : ℕ) : EReal := t.X r d * rootMean (t.X r) * t.GP d

/-- The projections. -/
def pj (r n : ℕ) : EReal := ∑ k : Fin 1024, t.h r k * t.WI k n

/-- The pool's input, the previous tile's last rows first. -/
def U (p n : ℕ) : EReal := if p < 16 then t.HU p n else t.pj (p - 16) n

/-- The attention's buffers. -/
def buf : Buffers where
  Q r n := t.pj r (1024 + n) * (((8 : ℝ)⁻¹ * (Real.log 2)⁻¹ : ℝ) : EReal)
  K kv p l := if p < 128 then t.HK kv p l else if (l < 64 ↔ kv = 0) then t.pj (p - 128) (1536 + l) else 0
  V l p := if p < 128 then t.HV l p else t.pj (p - 128) (1664 + l)
  SK kv j := t.SK (4 * kv + j / 64) * (((Real.log 2)⁻¹ : ℝ) : EReal)
  AG r n := swish (t.pj r (1792 + n))

/-- The pool: the mean over a window minus the row itself. -/
def pooled (r n : ℕ) : EReal :=
  Ideal.div (lastSum (n / 128 + 1) (fun p => t.U p n) (r + 16))
    (min ((1024 * t.T + r + 1 : ℕ) : EReal) ((2 ^ (n / 128 + 1) : ℕ) : EReal)) - t.U (r + 16) n

/-- The bias table that a block of queries uses. -/
def variant (s : ℕ) : ℕ := if t.T = 0 then 2 - s else 0

/-- What the output weights are applied to. -/
def mix (r n : ℕ) : EReal :=
  if n < 512 then
    ((∑ a : Fin 256, t.pooled r (256 * (n / 256) + a) * t.PW (n / 256) a (n % 256)) * t.PS n) * swish (t.pj r (512 + n))
  else t.buf.att (t.BI (t.variant (r / 64))) (64 * (r / 64)) ((n - 512) % 128 / 64) ((n - 512) / 128) (r % 64) (n % 64)
    * t.buf.AG r (n - 512)

/-- The output product. -/
def Y (r d : ℕ) : EReal := ∑ n : Fin 1024, t.mix r n * t.WO n d

/-- The tile's result. -/
def out (r d : ℕ) : EReal := t.X r d + t.Y r d * rootMean (t.Y r) * t.GO d

end Tile

/-! ## Words -/

theorem select_slt {a b : ℕ} (ha : a < 2 ^ 31) (hb : b < 2 ^ 31) (x y : EReal) :
    Scalar.select (IntOp.cmpi CmpIPredicate.slt (BitVec.ofNat 32 a) (BitVec.ofNat 32 b)) x y = if a < b then x else y := by
  rw [WordCmp.cmpi_slt_ofNat ha hb]
  by_cases h : a < b <;> simp [h, Scalar.select]

theorem select_sge {a b : ℕ} (ha : a < 2 ^ 31) (hb : b < 2 ^ 31) (x y : EReal) :
    Scalar.select (IntOp.cmpi CmpIPredicate.sge (BitVec.ofNat 32 a) (BitVec.ofNat 32 b)) x y = if b ≤ a then x else y := by
  rw [WordCmp.cmpi_sge_ofNat ha hb]
  by_cases h : b ≤ a <;> simp [h, Scalar.select]

theorem sitofp_ofNat {n : ℕ} (h : n < 2 ^ 31) : FloatOps.sitofp (F := Ideal) FTy.f32 (BitVec.ofNat 32 n) = (n : EReal) := by
  have e : (BitVec.ofNat 32 n).toInt = (n : ℤ) := by
    rw [BitVec.toInt_ofNat']
    exact Int.bmod_eq_of_le (by omega) (by omega)
  show (((BitVec.ofNat 32 n).toInt : ℝ) : EReal) = _
  rw [e]
  simp

/-! ## The operations -/

section operations

variable (t : Tile) (X : Vec Ideal S1x1024x1024 .f32) (G : Vec Ideal S1x1024 .f32)

/-- What a tile's input and gain hold. -/
def InputHolds : Prop :=
  (∀ (r d : Fin 1024), X (ix3 0 r d) = t.X r d) ∧ ∀ d : Fin 1024, G (ix2 0 d) = t.GP d

variable {t X G}

theorem pay37_apply (hx : InputHolds t X G) (r d : Fin 1024) : k0_pay37 X G (ix2 r d) = t.h r d := by
  pointwise [k0_pay37]
  simp only [hx.1, hx.2]
  rfl

variable {W : Vec Ideal S1024x1280 .bf16}

theorem pay38_apply (hx : InputHolds t X G) (hw : ∀ (d : Fin 1024) (n : Fin 1280), W (ix2 d n) = t.WI d (1024 + n))
    (r : Fin 1024) (n : Fin 1280) : k0_pay38 X G W (ix2 r n) = t.pj r (1024 + n) := by
  pointwise [k0_pay38]
  simp only [hw, pay37_apply hx]
  rfl

theorem pay39_apply (hx : InputHolds t X G) (hw : ∀ (d : Fin 1024) (n : Fin 1280), W (ix2 d n) = t.WI d (1024 + n))
    (r : Fin 1024) (n : Fin 512) : k0_pay39 X G W (ix2 r n) = t.buf.Q r n := by
  pointwise [k0_pay39]
  rw [pay38_apply hx hw, IdealRules.named_const.ideal_named_scalar κ "qscale" _ _ rfl]
  rfl

/-- The attention's gate. -/
def gateRows (a : FVec Ideal S1024x512 .f32) : FVec Ideal S1024x512 .f32 :=
  shapeCast S1024x512 (mulf a (divf (broadcast S1024x512 (FloatOps.ofBits FTy.f32 1065353216#32))
    (addf (broadcast S1024x512 (FloatOps.ofBits FTy.f32 1065353216#32))
      (exp (subf (broadcast S1024x512 (FloatOps.ofBits FTy.f32 0#32)) a))))) shapeCasts_S1024x512_S1024x512

theorem gateRows_apply (a : FVec Ideal S1024x512 .f32) (r : Fin 1024) (n : Fin 512) :
    gateRows a (ix2 r n) = swish (a (ix2 r n)) := by
  pointwise [gateRows]
  rfl

theorem pay42_apply (hx : InputHolds t X G) (hw : ∀ (d : Fin 1024) (n : Fin 1280), W (ix2 d n) = t.WI d (1024 + n))
    (r : Fin 1024) (n : Fin 512) : gateRows (k0_pay42 X G W) (ix2 r n) = t.buf.AG r n := by
  rw [gateRows_apply]
  pointwise [k0_pay42]
  rw [pay38_apply hx hw]
  exact congrArg (fun n => swish (t.pj r n)) (by simp only; omega)

/-- The keys in the lanes of the first key head, zero in the others. -/
def lowKeys (a : FVec Ideal S1024x128 .f32) : FVec Ideal S1x1024x128 .bf16 :=
  shapeCast S1x1024x128 (truncf FTy.bf16 (select (broadcastTo S1024x128 (shapeCast S1x128
    (cmpi CmpIPredicate.slt (iota Kind.tc S1x128 32 [1] iota_S1x128_d1_w32) (broadcast S1x128 64#32)) shapeCasts_S1x128_S1x128)
      broadcasts_S1x128_S1024x128) a (broadcast S1024x128 (FloatOps.ofBits FTy.f32 0#32))) bitsLt_bf16_f32) shapeCasts_S1024x128_S1x1024x128

/-- The keys in the lanes of the second key head, zero in the others. -/
def highKeys (a : FVec Ideal S1024x128 .f32) : FVec Ideal S1x1024x128 .bf16 :=
  shapeCast S1x1024x128 (truncf FTy.bf16 (select (broadcastTo S1024x128 (shapeCast S1x128
    (cmpi CmpIPredicate.sge (iota Kind.tc S1x128 32 [1] iota_S1x128_d1_w32) (broadcast S1x128 64#32)) shapeCasts_S1x128_S1x128)
      broadcasts_S1x128_S1024x128) a (broadcast S1024x128 (FloatOps.ofBits FTy.f32 0#32))) bitsLt_bf16_f32) shapeCasts_S1024x128_S1x1024x128

theorem lowKeys_apply (hx : InputHolds t X G) (hw : ∀ (d : Fin 1024) (n : Fin 1280), W (ix2 d n) = t.WI d (1024 + n))
    (r : Fin 1024) (l : Fin 128) : lowKeys (k0_pay40 X G W) (ix3 0 r l) = t.buf.K 0 (128 + r) l := by
  pointwise [lowKeys, k0_pay40]
  rw [pay38_apply hx hw, select_slt (by omega) (by omega)]
  have e : 1024 + (512 + (l : ℕ)) = 1536 + l := by omega
  simp [Tile.buf, e]

theorem highKeys_apply (hx : InputHolds t X G) (hw : ∀ (d : Fin 1024) (n : Fin 1280), W (ix2 d n) = t.WI d (1024 + n))
    (r : Fin 1024) (l : Fin 128) : highKeys (k0_pay40 X G W) (ix3 0 r l) = t.buf.K 1 (128 + r) l := by
  pointwise [highKeys, k0_pay40]
  rw [pay38_apply hx hw, select_sge (by omega) (by omega)]
  have e : 1024 + (512 + (l : ℕ)) = 1536 + l := by omega
  simp [Tile.buf, e]

/-- The values, transposed. -/
def valueRows (a : FVec Ideal S1024x128 .f32) : FVec Ideal S128x1024 .bf16 :=
  shapeCast S128x1024 (truncf FTy.bf16 (transpose S128x1024 [1, 0] a transposes_S1024x128_p1_0_S128x1024) bitsLt_bf16_f32)
    shapeCasts_S128x1024_S128x1024

theorem valueRows_apply (hx : InputHolds t X G) (hw : ∀ (d : Fin 1024) (n : Fin 1280), W (ix2 d n) = t.WI d (1024 + n))
    (l : Fin 128) (r : Fin 1024) : valueRows (k0_pay41 X G W) (ix2 l r) = t.buf.V l (128 + r) := by
  pointwise [valueRows, k0_pay41]
  rw [pay38_apply hx hw]
  have e : 1024 + (640 + (l : ℕ)) = 1664 + l := by omega
  simp [Tile.buf, e]

variable {V : Vec Ideal S1024x1024 .bf16}

/-- The first 1024 projections. -/
def poolProj (a v : FVec Ideal S1024x1024 .bf16) : FVec Ideal S1024x1024 .f32 :=
  matmul dot_S1024x1024_S1024x1024_S1024x1024_1_0_0_1_n_n none a v (constant S1024x1024 FTy.f32 0#32)

theorem poolInput_apply (hx : InputHolds t X G) (hw : ∀ (d : Fin 1024) (n : Fin 1024), V (ix2 d n) = t.WI d n)
    (r : Fin 1024) (n : Fin 512) :
    (shapeCast S1024x512 (extractStridedSlice S1024x512 ![0, 0] (poolProj (k0_pay37 X G) V) slices_S1024x1024_o0_0_S1024x512)
      shapeCasts_S1024x512_S1024x512) (ix2 r n) = t.U (16 + r) n := by
  pointwise [poolProj]
  simp only [pay37_apply hx, hw]
  simp [Tile.U, Tile.pj]

theorem poolGate_apply (hx : InputHolds t X G) (hw : ∀ (d : Fin 1024) (n : Fin 1024), V (ix2 d n) = t.WI d n)
    (r : Fin 1024) (n : Fin 512) :
    gateRows (extractStridedSlice S1024x512 ![0, 512] (poolProj (k0_pay37 X G) V) slices_S1024x1024_o0_512_S1024x512) (ix2 r n)
      = swish (t.pj r (512 + n)) := by
  rw [gateRows_apply]
  pointwise [poolProj]
  simp only [pay37_apply hx, hw]
  rfl

/-- A doubling step of the window's sum: the rows that the rotation wraps round are the first `s`. -/
theorem twice_apply (a : FVec Ideal S1040x128 .f32) (s k : ℕ) (hs : s < 1040) (f : ℕ → EReal) (n : Fin 128)
    (ha : ∀ p : Fin 1040, k ≤ p → a (ix2 p n) = f p) (p : Fin 1040) (hp : k + s ≤ p) :
    addf a (dynamicRotate 0 (BitVec.ofNat 32 s) none a rotates_S1040x128_d0) (ix2 p n) = twice s f p := by
  pointwise []
  have e : ((p : ℕ) + 1040 - (BitVec.ofNat 32 s).toNat % 1040) % 1040 = p - s := by
    rw [BitVec.toNat_ofNat]; omega
  rw [ha p (by omega), ha _ (by simp only [e]; omega)]
  simp only [e, twice]

theorem sinks_low (a : Fin 8 → EReal) (ha : ∀ j, a j = t.SK j) (j : Fin 256) :
    k0_pay48 (F := Ideal) (a 0) (a 1) (a 2) (a 3) (ix2 0 j) = t.buf.SK 0 j := by
  pointwise [k0_pay48]
  simp only [ha]
  rw [select_sge (by omega) (by omega), select_sge (by omega) (by omega), select_sge (by omega) (by omega),
    select_sge (by omega) (by omega), IdealRules.named_const.ideal_named_scalar κ "log2e" _ _ rfl]
  refine congrArg (· * _) ?_
  split_ifs <;> first | omega | (refine congrArg t.SK ?_; first | omega | (norm_num; omega))

theorem sinks_high (a : Fin 8 → EReal) (ha : ∀ j, a j = t.SK j) (j : Fin 256) :
    k0_pay51 (F := Ideal) (iota Kind.tc S1x256 32 [1] iota_S1x256_d1_w32) (k0_pay49 (a 4)) k0_pay50 (a 5) (a 6) (a 7)
      (ix2 0 j) = t.buf.SK 1 j := by
  pointwise [k0_pay49, k0_pay50, k0_pay51]
  simp only [ha]
  rw [select_sge (by omega) (by omega), select_sge (by omega) (by omega), select_sge (by omega) (by omega),
    select_sge (by omega) (by omega), IdealRules.named_const.ideal_named_scalar κ "log2e" _ _ rfl]
  refine congrArg (· * _) ?_
  split_ifs <;> first | omega | (refine congrArg t.SK ?_; first | omega | (norm_num; omega))

/-- Two channel groups of the pool: the product with their weights, the scale, the gate. -/
def poolMix (p : FVec Ideal S1024x256 .bf16) (w : FVec Ideal S1x256x256 .bf16) (s : FVec Ideal S1x256 .f32)
    (g : FVec Ideal S1024x256 .f32) : FVec Ideal S1024x256 .bf16 :=
  shapeCast S1024x256 (truncf FTy.bf16 (mulf (mulf (matmul dot_S1024x256_S256x256_S1024x256_1_0_0_1_n_n none p
    (shapeCast S256x256 w shapeCasts_S1x256x256_S256x256) (constant S1024x256 FTy.f32 0#32))
      (broadcastTo S1024x256 s broadcasts_S1x256_S1024x256)) g) bitsLt_bf16_f32) shapeCasts_S1024x256_S1024x256

theorem poolMix_apply (p : FVec Ideal S1024x256 .bf16) (w : FVec Ideal S1x256x256 .bf16) (s : FVec Ideal S1x256 .f32)
    (g : FVec Ideal S1024x256 .f32) (i : ℕ) (hi : i < 2)
    (hp : ∀ (r : Fin 1024) (n : Fin 256), p (ix2 r n) = t.pooled r (256 * i + n))
    (hw : ∀ a b : Fin 256, w (ix3 0 a b) = t.PW i a b) (hs : ∀ n : Fin 256, s (ix2 0 n) = t.PS (256 * i + n))
    (hg : ∀ (r : Fin 1024) (n : Fin 256), g (ix2 r n) = swish (t.pj r (512 + (256 * i + n)))) (r : Fin 1024) (n : Fin 256) :
    poolMix p w s g (ix2 r n) = t.mix r (256 * i + n) := by
  have h1 : 256 * i + (n : ℕ) < 512 := by omega
  have h2 : (256 * i + (n : ℕ)) / 256 = i := by omega
  have h3 : (256 * i + (n : ℕ)) % 256 = n := by omega
  pointwise [poolMix]
  simp only [hp, hw, hs, hg, Tile.mix, h1, if_true, h2, h3]

theorem pay1_apply (m : Vec Ideal S512x1024 .bf16) (w : Vec Ideal S1024x1024 .bf16) (x : Vec Ideal S1x512x1024 .f32)
    (g : Vec Ideal S1x1024 .f32) (r0 : ℕ) (hm : ∀ (r : Fin 512) (n : Fin 1024), m (ix2 r n) = t.mix (r0 + r) n)
    (hw : ∀ n d : Fin 1024, w (ix2 n d) = t.WO n d) (hx : ∀ (r : Fin 512) (d : Fin 1024), x (ix3 0 r d) = t.X (r0 + r) d)
    (hg : ∀ d : Fin 1024, g (ix2 0 d) = t.GO d) (r : Fin 512) (d : Fin 1024) :
    k0_pay1 (k0_pay275 m w) (k0_pay276 m w) k0_pay277 x g (ix3 0 r d) = t.out (r0 + r) d := by
  pointwise [k0_pay1, k0_pay275, k0_pay276, k0_pay277]
  simp only [hm, hw, hx, hg]
  rfl

/-- The position of a row in the sequence, counted from 1. -/
theorem pay47_apply (i : ℕ) (hi : i < 2) (ht : t.T = i) (r : Fin 1024) (n : Fin 128) :
    k0_pay47 (F := Ideal) (BitVec.ofNat 32 i) (iota Kind.tc S1024x128 32 [0] iota_S1024x128_d0_w32) 1024#32 (ix2 r n)
      = ((1024 * t.T + r + 1 : ℕ) : EReal) := by
  pointwise [k0_pay47]
  rw [← sitofp_ofNat (n := 1024 * t.T + r + 1) (by omega), ht]
  refine congrArg _ (BitVec.eq_of_toNat_eq ?_)
  simp [IntOp.addi, Scalar.addi, Scalar.muli, IntOp.muli]
  omega

/-- A window's pool: the sum over the count, minus the row. -/
def poolOf (a b : FVec Ideal S1040x128 .f32) (p : FVec Ideal S1024x128 .f32) (w : Ideal .f32) : FVec Ideal S1024x128 .bf16 :=
  shapeCast S1024x128 (truncf FTy.bf16 (subf (divf (extractStridedSlice S1024x128 ![16, 0] a slices_S1040x128_o16_0_S1024x128)
    (minimumf p (broadcast S1024x128 w))) (extractStridedSlice S1024x128 ![16, 0] b slices_S1040x128_o16_0_S1024x128)) bitsLt_bf16_f32)
    shapeCasts_S1024x128_S1024x128

theorem poolOf_apply (a b : FVec Ideal S1040x128 .f32) (p : FVec Ideal S1024x128 .f32) (w : Ideal .f32) (g : ℕ)
    (hw : w = ((2 ^ (g + 1) : ℕ) : EReal)) (n : Fin 128)
    (ha : ∀ p : Fin 1040, 15 ≤ p → a (ix2 p n) = lastSum (g + 1) (fun p => t.U p (128 * g + n)) p)
    (hb : ∀ p : Fin 1040, b (ix2 p n) = t.U p (128 * g + n))
    (hp : ∀ r : Fin 1024, p (ix2 r n) = ((1024 * t.T + r + 1 : ℕ) : EReal)) (r : Fin 1024) :
    poolOf a b p w (ix2 r n) = t.pooled r (128 * g + n) := by
  have e : (128 * g + (n : ℕ)) / 128 = g := by omega
  pointwise [poolOf]
  rw [ha _ (show 15 ≤ 16 + (r : ℕ) by omega), hb, hp, hw]
  simp only [Tile.pooled, e, Nat.add_comm 16]

end operations

end Cert.Layer

end
-- ==== Proof.Reads.lean ====
/-
  Reading a buffer that a list of stores filled: if every store agrees with one function of the coordinates, so does
  every load.
-/
module

public import proofs.«01_k».proof.Proof.Gen.KernelIdeal.Skeleton
public import Idealize.ShloMosaic.Lib.Pointwise
public import Idealize.ShloMosaic.Lib.ValueIdx
public import Idealize.ShloMosaic.Lib.Pipeline.ValueKit.Tiles
public import Idealize.ShloMosaic.Lib.Writes

@[expose] public section

set_option maxRecDepth 16384

noncomputable section

namespace Cert.Layer

open Idealize.ShloMosaic Idealize.ShloMosaic.TcCoe

variable {sig : RefSig} {κ : Kind} {sp : Space} {e : EltTy} {Val : EltTy → Type}

/-- The stores of a list agree with a function of the index. -/
def Agrees {s : Shape} (L : List (View.Piece Val s e)) (g : s.Idx → Val e) : Prop :=
  ∀ p ∈ L, ∀ x, p.2 x = g (p.1.emb x)

theorem Agrees.nil {s : Shape} (g : s.Idx → Val e) : Agrees ([] : List (View.Piece Val s e)) g :=
  fun _ h => absurd h List.not_mem_nil

theorem Agrees.cons {s : Shape} {L : List (View.Piece Val s e)} {g : s.Idx → Val e} {p : View.Piece Val s e}
    (hp : ∀ x, p.2 x = g (p.1.emb x)) (hL : Agrees L g) : Agrees (p :: L) g := fun q hq x => by
  rcases List.mem_cons.mp hq with rfl | hq
  · exact hp x
  · exact hL q hq x

theorem Agrees.canon [∀ e, Nonempty (Val e)] {s : Shape} {L : List (View.Piece Val s e)} {g : s.Idx → Val e}
    (h : Agrees L g) {y : s.Idx} (hy : ∃ p ∈ L, y ∈ p.1.set) : View.canon L y = g y :=
  View.canon_eq_of_allAt L y _ hy fun p hp x hx => hx ▸ h p hp x

/-- Over stores that agree, a buffer reads the function wherever a store reaches or the buffer held it before. -/
theorem Agrees.writes {s : Shape} {L : List (View.Piece Val s e)} {g : s.Idx → Val e} (h : Agrees L g)
    (v : View sig κ sp s e) (f : v.ty.Contents Val) {y : s.Idx} (hy : (∃ p ∈ L, y ∈ p.1.set) ∨ v.read Val f y = g y) :
    v.read Val (v.writes Val f L) y = g y := by
  by_cases hc : ∃ p ∈ L, y ∈ p.1.set
  · exact View.read_writes_apply_of_pieces v f g L (fun p hp x => h p hp x) y hc
  · rw [View.read_writes_apply_of_forall_not_mem v f y L fun p hp hm => hc ⟨p, hp, hm⟩]
    exact hy.resolve_left hc

section loads

variable [∀ e, Nonempty (Val e)]

/-- A load of a part of a buffer of two axes, filled from the column `k` on. -/
theorem readCov2 {R C m n : ℕ} (v : View sig κ sp ⟨2, ![R, C]⟩ e) (L : List (View.Piece Val ⟨2, ![R, C]⟩ e))
    {S : ℕ → ℕ → Val e} (k : ℕ) (hL : ∀ y : (⟨2, ![R, C]⟩ : Shape).Idx, k ≤ (y 1 : ℕ) → View.canon L y = S (y 0) (y 1))
    {a b : ℕ} (hk : k ≤ b) (inb) (c : Fin m) (l : Fin n) :
    v.readCov L (Rect.unit (s := ⟨2, ![R, C]⟩) ![a, b] ![m, n] inb).toLoadRect (ix2 c l) = S (a + c) (b + l) := by
  rw [View.readCov_eq_canon']
  refine (hL _ (show k ≤ b + 1 * (l : ℕ) by omega)).trans (congrArg₂ S ?_ ?_)
  · show a + 1 * (c : ℕ) = _
    omega
  · show b + 1 * (l : ℕ) = _
    omega

/-- A load of a part of a buffer of three axes, filled from the row `q` on. -/
theorem readCov3 {K R C k m n : ℕ} (v : View sig κ sp ⟨3, ![K, R, C]⟩ e) (L : List (View.Piece Val ⟨3, ![K, R, C]⟩ e))
    {S : ℕ → ℕ → ℕ → Val e} (q : ℕ)
    (hL : ∀ y : (⟨3, ![K, R, C]⟩ : Shape).Idx, q ≤ (y 1 : ℕ) → View.canon L y = S (y 0) (y 1) (y 2)) {z a b : ℕ} (hq : q ≤ a)
    (inb) (i : Fin k) (c : Fin m) (l : Fin n) :
    v.readCov L (Rect.unit (s := ⟨3, ![K, R, C]⟩) ![z, a, b] ![k, m, n] inb).toLoadRect (ix3 i c l)
      = S (z + i) (a + c) (b + l) := by
  rw [View.readCov_eq_canon']
  have h0 : z + 1 * (i : ℕ) = z + i := by omega
  have h1 : a + 1 * (c : ℕ) = a + c := by omega
  have h2 : b + 1 * (l : ℕ) = b + l := by omega
  exact (hL _ (show q ≤ a + 1 * (c : ℕ) by omega)).trans
    (show S (z + 1 * (i : ℕ)) (a + 1 * (c : ℕ)) (b + 1 * (l : ℕ)) = _ by rw [h0, h1, h2])

/-- A load of a part of a buffer of two axes whose contents are known. -/
theorem readAt2 {R C m n : ℕ} (v : View sig κ sp ⟨2, ![R, C]⟩ e) (f : v.ty.Contents Val)
    {S : ℕ → ℕ → Val e} (hL : ∀ y, v.read Val f y = S (y 0) (y 1)) {a b : ℕ} (inb) (c : Fin m) (l : Fin n) :
    v.readAt Val (Rect.unit (s := ⟨2, ![R, C]⟩) ![a, b] ![m, n] inb).toLoadRect f (ix2 c l) = S (a + c) (b + l) := by
  refine (hL _).trans (congrArg₂ S ?_ ?_)
  · show a + 1 * (c : ℕ) = _
    omega
  · show b + 1 * (l : ℕ) = _
    omega

/-- A load of a part of a buffer of three axes whose contents are known. -/
theorem readAt3 {K R C k m n : ℕ} (v : View sig κ sp ⟨3, ![K, R, C]⟩ e) (f : v.ty.Contents Val)
    {S : ℕ → ℕ → ℕ → Val e} (hL : ∀ y, v.read Val f y = S (y 0) (y 1) (y 2)) {z a b : ℕ} (inb) (i : Fin k) (c : Fin m)
    (l : Fin n) :
    v.readAt Val (Rect.unit (s := ⟨3, ![K, R, C]⟩) ![z, a, b] ![k, m, n] inb).toLoadRect f (ix3 i c l)
      = S (z + i) (a + c) (b + l) := by
  have h0 : z + 1 * (i : ℕ) = z + i := by omega
  have h1 : a + 1 * (c : ℕ) = a + c := by omega
  have h2 : b + 1 * (l : ℕ) = b + l := by omega
  exact (hL _).trans (show S (z + 1 * (i : ℕ)) (a + 1 * (c : ℕ)) (b + 1 * (l : ℕ)) = _ by rw [h0, h1, h2])

end loads

/-- A store of a buffer of two axes agrees, by coordinates. -/
theorem piece2 {R C m n : ℕ} {S : ℕ → ℕ → Val e} {a b : ℕ} (inb)
    (w : (Rect.unit (s := ⟨2, ![R, C]⟩) ![a, b] ![m, n] inb).shape.Idx → Val e)
    (h : ∀ (c : Fin m) (l : Fin n), w (ix2 c l) = S (a + c) (b + l)) (x) :
    w x = (fun y : (⟨2, ![R, C]⟩ : Shape).Idx => S (y 0) (y 1))
      ((Rect.unit (s := ⟨2, ![R, C]⟩) ![a, b] ![m, n] inb).emb x) := by
  obtain ⟨c, l, rfl⟩ : ∃ (c : Fin m) (l : Fin n), x = ix2 c l := ⟨x 0, x 1, by funext i; fin_cases i <;> rfl⟩
  refine (h c l).trans (congrArg₂ S ?_ ?_)
  · show _ = a + 1 * (c : ℕ)
    omega
  · show _ = b + 1 * (l : ℕ)
    omega

/-- A store of a buffer of three axes agrees, by coordinates. -/
theorem piece3 {K R C k m n : ℕ} {S : ℕ → ℕ → ℕ → Val e} {z a b : ℕ} (inb)
    (w : (Rect.unit (s := ⟨3, ![K, R, C]⟩) ![z, a, b] ![k, m, n] inb).shape.Idx → Val e)
    (h : ∀ (i : Fin k) (c : Fin m) (l : Fin n), w (ix3 i c l) = S (z + i) (a + c) (b + l)) (x) :
    w x = (fun y : (⟨3, ![K, R, C]⟩ : Shape).Idx => S (y 0) (y 1) (y 2))
      ((Rect.unit (s := ⟨3, ![K, R, C]⟩) ![z, a, b] ![k, m, n] inb).emb x) := by
  obtain ⟨i, c, l, rfl⟩ : ∃ (i : Fin k) (c : Fin m) (l : Fin n), x = ix3 i c l :=
    ⟨x 0, x 1, x 2, by funext i; fin_cases i <;> rfl⟩
  have h0 : z + 1 * (i : ℕ) = z + i := by omega
  have h1 : a + 1 * (c : ℕ) = a + c := by omega
  have h2 : b + 1 * (l : ℕ) = b + l := by omega
  exact (h i c l).trans (show _ = S (z + 1 * (i : ℕ)) (a + 1 * (c : ℕ)) (b + 1 * (l : ℕ)) by rw [h0, h1, h2])

theorem Agrees.cons2 {R C m n : ℕ} {S : ℕ → ℕ → Val e} {a b : ℕ} {inb}
    {w : (Rect.unit (s := ⟨2, ![R, C]⟩) ![a, b] ![m, n] inb).shape.Idx → Val e}
    {L : List (View.Piece Val ⟨2, ![R, C]⟩ e)} (h : ∀ (c : Fin m) (l : Fin n), w (ix2 c l) = S (a + c) (b + l))
    (hL : Agrees L fun y => S (y 0) (y 1)) :
    Agrees (⟨Rect.unit (s := ⟨2, ![R, C]⟩) ![a, b] ![m, n] inb, w⟩ :: L) fun y => S (y 0) (y 1) :=
  .cons (p := ⟨Rect.unit (s := ⟨2, ![R, C]⟩) ![a, b] ![m, n] inb, w⟩) (piece2 inb w h) hL

theorem Agrees.cons3 {K R C k m n : ℕ} {S : ℕ → ℕ → ℕ → Val e} {z a b : ℕ} {inb}
    {w : (Rect.unit (s := ⟨3, ![K, R, C]⟩) ![z, a, b] ![k, m, n] inb).shape.Idx → Val e}
    {L : List (View.Piece Val ⟨3, ![K, R, C]⟩ e)}
    (h : ∀ (i : Fin k) (c : Fin m) (l : Fin n), w (ix3 i c l) = S (z + i) (a + c) (b + l))
    (hL : Agrees L fun y => S (y 0) (y 1) (y 2)) :
    Agrees (⟨Rect.unit (s := ⟨3, ![K, R, C]⟩) ![z, a, b] ![k, m, n] inb, w⟩ :: L) fun y => S (y 0) (y 1) (y 2) :=
  .cons (p := ⟨Rect.unit (s := ⟨3, ![K, R, C]⟩) ![z, a, b] ![k, m, n] inb, w⟩) (piece3 inb w h) hL

/-- The contents of a whole buffer of two axes, by coordinates. -/
theorem read_whole2 {R C : ℕ} (v : View sig κ sp ⟨2, ![R, C]⟩ e) (f : v.ty.Contents Val) (x : (⟨2, ![R, C]⟩ : Shape).Idx → Val e)
    (hf : v.read Val f = x) {S : ℕ → ℕ → Val e} (h : ∀ (r : Fin R) (c : Fin C), x (ix2 r c) = S r c) (y) :
    v.read Val f y = S (y 0) (y 1) := by
  obtain ⟨r, c, rfl⟩ : ∃ (r : Fin R) (c : Fin C), y = ix2 r c := ⟨y 0, y 1, by funext i; fin_cases i <;> rfl⟩
  rw [hf]
  exact h r c

/-- The contents of a whole buffer of three axes, by coordinates. -/
theorem read_whole3 {K R C : ℕ} (v : View sig κ sp ⟨3, ![K, R, C]⟩ e) (f : v.ty.Contents Val)
    (x : (⟨3, ![K, R, C]⟩ : Shape).Idx → Val e) (hf : v.read Val f = x) {S : ℕ → ℕ → ℕ → Val e}
    (h : ∀ (i : Fin K) (r : Fin R) (c : Fin C), x (ix3 i r c) = S i r c) (y) : v.read Val f y = S (y 0) (y 1) (y 2) := by
  obtain ⟨i, r, c, rfl⟩ : ∃ (i : Fin K) (r : Fin R) (c : Fin C), y = ix3 i r c :=
    ⟨y 0, y 1, y 2, by funext i; fin_cases i <;> rfl⟩
  rw [hf]
  exact h i r c

/-- A load from the second row of a buffer of two rows. -/
theorem readRow {C n : ℕ} (v : View sig κ sp ⟨2, ![2, C]⟩ e) (f : v.ty.Contents Val)
    (x : (⟨2, ![2, C]⟩ : Shape).Idx → Val e) (hf : v.read Val f = x) {S : ℕ → Val e}
    (h : ∀ d : Fin C, x (ix2 1 d) = S d) {b : ℕ} (inb) (d : Fin n) :
    v.readAt Val (Rect.unit (s := ⟨2, ![2, C]⟩) ![1, b] ![1, n] inb).toLoadRect f (ix2 0 d) = S (b + d) := by
  have hb : b + n ≤ C := inb 1
  have e : (Rect.unit (s := ⟨2, ![2, C]⟩) ![1, b] ![1, n] inb).toLoadRect.idx (ix2 0 d) = ix2 1 ⟨b + d, by omega⟩ := by
    funext i
    fin_cases i
    · rfl
    · exact Fin.ext (show b + 1 * (d : ℕ) = b + d by omega)
  rw [View.readAt_apply, hf, e, h]

/-- A load of a buffer of two rows at one place of the second. -/
theorem readCell {C : ℕ} (v : View sig κ sp ⟨2, ![2, C]⟩ e) (f : v.ty.Contents Val)
    (x : (⟨2, ![2, C]⟩ : Shape).Idx → Val e) (hf : v.read Val f = x) {S : ℕ → Val e}
    (h : ∀ d : Fin C, x (ix2 1 d) = S d) {b : ℕ} (inb) (j : (⟨2, ![1, 1]⟩ : Shape).Idx) :
    v.readAt Val (Rect.unit (s := ⟨2, ![2, C]⟩) ![1, b] ![1, 1] inb).toLoadRect f j = S b := by
  obtain rfl : j = ix2 0 0 := by funext i; fin_cases i <;> exact Subsingleton.elim (α := Fin 1) _ _
  exact readRow v f x hf h inb 0

theorem reach2 {R C m n a b : ℕ} {inb} {w : (Rect.unit (s := ⟨2, ![R, C]⟩) ![a, b] ![m, n] inb).shape.Idx → Val e}
    {L : List (View.Piece Val ⟨2, ![R, C]⟩ e)} (y : (⟨2, ![R, C]⟩ : Shape).Idx) (h0 : a ≤ (y 0 : ℕ) ∧ (y 0 : ℕ) < a + m)
    (h1 : b ≤ (y 1 : ℕ) ∧ (y 1 : ℕ) < b + n) :
    ∃ p ∈ (⟨Rect.unit (s := ⟨2, ![R, C]⟩) ![a, b] ![m, n] inb, w⟩ :: L : List (View.Piece Val ⟨2, ![R, C]⟩ e)),
      y ∈ p.1.set :=
  ⟨⟨Rect.unit (s := ⟨2, ![R, C]⟩) ![a, b] ![m, n] inb, w⟩, List.mem_cons_self,
    (Rect.mem_set_unit (inb := inb)).mpr fun i => match i with
      | ⟨0, _⟩ => h0
      | ⟨1, _⟩ => h1⟩

theorem reach3 {K R C k m n z a b : ℕ} {inb}
    {w : (Rect.unit (s := ⟨3, ![K, R, C]⟩) ![z, a, b] ![k, m, n] inb).shape.Idx → Val e}
    {L : List (View.Piece Val ⟨3, ![K, R, C]⟩ e)} (y : (⟨3, ![K, R, C]⟩ : Shape).Idx)
    (h0 : z ≤ (y 0 : ℕ) ∧ (y 0 : ℕ) < z + k) (h1 : a ≤ (y 1 : ℕ) ∧ (y 1 : ℕ) < a + m)
    (h2 : b ≤ (y 2 : ℕ) ∧ (y 2 : ℕ) < b + n) :
    ∃ p ∈ (⟨Rect.unit (s := ⟨3, ![K, R, C]⟩) ![z, a, b] ![k, m, n] inb, w⟩ :: L : List (View.Piece Val ⟨3, ![K, R, C]⟩ e)),
      y ∈ p.1.set :=
  ⟨⟨Rect.unit (s := ⟨3, ![K, R, C]⟩) ![z, a, b] ![k, m, n] inb, w⟩, List.mem_cons_self,
    (Rect.mem_set_unit (inb := inb)).mpr fun i => match i with
      | ⟨0, _⟩ => h0
      | ⟨1, _⟩ => h1
      | ⟨2, _⟩ => h2⟩

theorem reach_tail {s : Shape} {q : View.Piece Val s e} {L : List (View.Piece Val s e)} {y : s.Idx}
    (h : ∃ p ∈ L, y ∈ p.1.set) : ∃ p ∈ q :: L, y ∈ p.1.set :=
  let ⟨p, hp, hy⟩ := h
  ⟨p, List.mem_cons_of_mem _ hp, hy⟩

end Cert.Layer

end
-- ==== Proof.Sub.lean ====
/-
  A gated block of attention, as the values that the output weights are applied to.
-/
module

public import proofs.«01_k».proof.Proof.Tile
public import proofs.«01_k».proof.Proof.Reads

@[expose] public section

set_option maxRecDepth 16384

noncomputable section

namespace Cert.Layer

open Idealize.ShloMosaic Idealize.ShloMosaic.TcCoe
open Cert.KernelIdeal Cert.KernelIdeal.Gen

variable {t : Tile}

theorem Tile.mix_att {a b g : ℕ} (ea : 64 * (a / 64) = a) (eb : b = 512 + 128 * g) (c : Fin 64) (l : Fin 128) :
    t.buf.att (t.BI (t.variant (a / 64))) a (l / 64) g c (l % 64) * t.buf.AG (a + c) (128 * g + l)
      = t.mix (a + c) (b + l) := by
  subst eb
  have h1 : ¬ 512 + 128 * g + (l : ℕ) < 512 := by omega
  have h2 : 512 + 128 * g + (l : ℕ) - 512 = 128 * g + l := by omega
  have h3 : (a + (c : ℕ)) / 64 = a / 64 := by omega
  have h4 : (a + (c : ℕ)) % 64 = c := by omega
  have h5 : (128 * g + (l : ℕ)) % 128 / 64 = l / 64 := by omega
  have h6 : (128 * g + (l : ℕ)) / 128 = g := by omega
  have h7 : (512 + 128 * g + (l : ℕ)) % 64 = l % 64 := by omega
  simp only [Tile.mix, h1, if_false, h2, h3, h4, h5, h6, h7, ea]

variable {a b c0 : ℕ} {k0 k1 : FVec Ideal S1x192x128 .bf16}
  {q0 q1 q2 q3 : FVec Ideal S64x128 .bf16} {bi : FVec Ideal S384x256 .f32} {s0 s1 : FVec Ideal S1x256 .f32}
  {v0 v1 : FVec Ideal S64x256 .bf16} {ag : FVec Ideal S64x128 .f32}

section gates

variable (h : Reads t.buf (t.BI (t.variant (a / 64))) a c0 k0 k1 q0 q1 q2 q3 bi s0 s1 v0 v1)
  (ea : 64 * (a / 64) = a)

include h ea

theorem below0 (hc : c0 = a) (ha : ∀ (c : Fin 64) (l : Fin 128), ag (ix2 c l) = t.buf.AG (a + c) (0 + l)) (c : Fin 64)
    (l : Fin 128) : gate0 (pairT0 (keyHead padBelow (lowScores (blockScores k0 k1 q0 q1 q2 q3 bi)) s0 v0)
      (keyHead padBelow (highScores (blockScores k0 k1 q0 q1 q2 q3 bi)) s1 v1)) ag (ix2 c l) = t.mix (a + c) (512 + l) :=
  (gate0_pair0 _ _ _ c l).trans ((gated _ _ _ 0 (by omega) (h.below hc) ha c l).trans (Tile.mix_att ea rfl c l))

theorem below1 (hc : c0 = a) (ha : ∀ (c : Fin 64) (l : Fin 128), ag (ix2 c l) = t.buf.AG (a + c) (128 + l)) (c : Fin 64)
    (l : Fin 128) : gate1 (pairT0 (keyHead padBelow (lowScores (blockScores k0 k1 q0 q1 q2 q3 bi)) s0 v0)
      (keyHead padBelow (highScores (blockScores k0 k1 q0 q1 q2 q3 bi)) s1 v1)) ag (ix2 c l) = t.mix (a + c) (640 + l) :=
  (gate1_pair0 _ _ _ c l).trans ((gated _ _ _ 1 (by omega) (h.below hc) ha c l).trans (Tile.mix_att ea rfl c l))

theorem below2 (hc : c0 = a) (ha : ∀ (c : Fin 64) (l : Fin 128), ag (ix2 c l) = t.buf.AG (a + c) (256 + l)) (c : Fin 64)
    (l : Fin 128) : gate0 (pairT1 (keyHead padBelow (lowScores (blockScores k0 k1 q0 q1 q2 q3 bi)) s0 v0)
      (keyHead padBelow (highScores (blockScores k0 k1 q0 q1 q2 q3 bi)) s1 v1)) ag (ix2 c l) = t.mix (a + c) (768 + l) :=
  (gate0_pair1 _ _ _ c l).trans ((gated _ _ _ 2 (by omega) (h.below hc) ha c l).trans (Tile.mix_att ea rfl c l))

theorem below3 (hc : c0 = a) (ha : ∀ (c : Fin 64) (l : Fin 128), ag (ix2 c l) = t.buf.AG (a + c) (384 + l)) (c : Fin 64)
    (l : Fin 128) : gate1 (pairT1 (keyHead padBelow (lowScores (blockScores k0 k1 q0 q1 q2 q3 bi)) s0 v0)
      (keyHead padBelow (highScores (blockScores k0 k1 q0 q1 q2 q3 bi)) s1 v1)) ag (ix2 c l) = t.mix (a + c) (896 + l) :=
  (gate1_pair1 _ _ _ c l).trans ((gated _ _ _ 3 (by omega) (h.below hc) ha c l).trans (Tile.mix_att ea rfl c l))

theorem above0 (hc : c0 + 64 = a) (ha : ∀ (c : Fin 64) (l : Fin 128), ag (ix2 c l) = t.buf.AG (a + c) (0 + l)) (c : Fin 64)
    (l : Fin 128) : gate0 (pairT0 (keyHead padAbove (lowScores (blockScores k0 k1 q0 q1 q2 q3 bi)) s0 v0)
      (keyHead padAbove (highScores (blockScores k0 k1 q0 q1 q2 q3 bi)) s1 v1)) ag (ix2 c l) = t.mix (a + c) (512 + l) :=
  (gate0_pair0 _ _ _ c l).trans ((gated _ _ _ 0 (by omega) (h.above hc) ha c l).trans (Tile.mix_att ea rfl c l))

theorem above1 (hc : c0 + 64 = a) (ha : ∀ (c : Fin 64) (l : Fin 128), ag (ix2 c l) = t.buf.AG (a + c) (128 + l)) (c : Fin 64)
    (l : Fin 128) : gate1 (pairT0 (keyHead padAbove (lowScores (blockScores k0 k1 q0 q1 q2 q3 bi)) s0 v0)
      (keyHead padAbove (highScores (blockScores k0 k1 q0 q1 q2 q3 bi)) s1 v1)) ag (ix2 c l) = t.mix (a + c) (640 + l) :=
  (gate1_pair0 _ _ _ c l).trans ((gated _ _ _ 1 (by omega) (h.above hc) ha c l).trans (Tile.mix_att ea rfl c l))

theorem above2 (hc : c0 + 64 = a) (ha : ∀ (c : Fin 64) (l : Fin 128), ag (ix2 c l) = t.buf.AG (a + c) (256 + l)) (c : Fin 64)
    (l : Fin 128) : gate0 (pairT1 (keyHead padAbove (lowScores (blockScores k0 k1 q0 q1 q2 q3 bi)) s0 v0)
      (keyHead padAbove (highScores (blockScores k0 k1 q0 q1 q2 q3 bi)) s1 v1)) ag (ix2 c l) = t.mix (a + c) (768 + l) :=
  (gate0_pair1 _ _ _ c l).trans ((gated _ _ _ 2 (by omega) (h.above hc) ha c l).trans (Tile.mix_att ea rfl c l))

theorem above3 (hc : c0 + 64 = a) (ha : ∀ (c : Fin 64) (l : Fin 128), ag (ix2 c l) = t.buf.AG (a + c) (384 + l)) (c : Fin 64)
    (l : Fin 128) : gate1 (pairT1 (keyHead padAbove (lowScores (blockScores k0 k1 q0 q1 q2 q3 bi)) s0 v0)
      (keyHead padAbove (highScores (blockScores k0 k1 q0 q1 q2 q3 bi)) s1 v1)) ag (ix2 c l) = t.mix (a + c) (896 + l) :=
  (gate1_pair1 _ _ _ c l).trans ((gated _ _ _ 3 (by omega) (h.above hc) ha c l).trans (Tile.mix_att ea rfl c l))

end gates

/-- The bias, a table read as two axes. -/
theorem bias_apply (B : FVec Ideal S1x384x256 .f32) (S : ℕ → ℕ → EReal)
    (h : ∀ (r : Fin 384) (j : Fin 256), B (ix3 0 r j) = S r j) (r : Fin 384) (j : Fin 256) :
    shapeCast S384x256 B shapeCasts_S1x384x256_S384x256 (ix2 r j) = S r j := by
  pointwise []
  exact h r j

/-- The vectors that a block reads, from loads that are known by coordinates. -/
theorem Reads.of_loads (hk0 : ∀ (r : Fin 192) (l : Fin 128), k0 (ix3 0 r l) = t.buf.K (0 + ((0 : Fin 1) : ℕ)) (a + r) (0 + l))
    (hk1 : ∀ (r : Fin 192) (l : Fin 128), k1 (ix3 0 r l) = t.buf.K (1 + ((0 : Fin 1) : ℕ)) (a + r) (0 + l))
    (hq0 : ∀ (c : Fin 64) (l : Fin 128), q0 (ix2 c l) = t.buf.Q (a + c) (0 + l))
    (hq1 : ∀ (c : Fin 64) (l : Fin 128), q1 (ix2 c l) = t.buf.Q (a + c) (128 + l))
    (hq2 : ∀ (c : Fin 64) (l : Fin 128), q2 (ix2 c l) = t.buf.Q (a + c) (256 + l))
    (hq3 : ∀ (c : Fin 64) (l : Fin 128), q3 (ix2 c l) = t.buf.Q (a + c) (384 + l))
    (hb : ∀ (r : Fin 384) (j : Fin 256), bi (ix2 r j) = t.BI (t.variant (a / 64)) r j)
    (hs0 : ∀ j : Fin 256, s0 (ix2 0 j) = t.buf.SK 0 j) (hs1 : ∀ j : Fin 256, s1 (ix2 0 j) = t.buf.SK 1 j)
    (hv0 : ∀ (e : Fin 64) (j : Fin 256), v0 (ix2 e j) = t.buf.V (0 + e) (c0 + j))
    (hv1 : ∀ (e : Fin 64) (j : Fin 256), v1 (ix2 e j) = t.buf.V (64 + e) (c0 + j)) :
    Reads t.buf (t.BI (t.variant (a / 64))) a c0 k0 k1 q0 q1 q2 q3 bi s0 s1 v0 v1 where
  k0 r l := (hk0 r l).trans (by simp)
  k1 r l := (hk1 r l).trans (by simp)
  q0 := hq0
  q1 := hq1
  q2 := hq2
  q3 := hq3
  bi := hb
  s0 := hs0
  s1 := hs1
  v0 e j := (hv0 e j).trans (by rw [Nat.zero_add])
  v1 := hv1

section pieces

variable {L : List (View.Piece (Elt Ideal) S1024x1024 .bf16)} {ag0 ag1 ag2 ag3 : FVec Ideal S64x128 .f32}
  (h : Reads t.buf (t.BI (t.variant (a / 64))) a c0 k0 k1 q0 q1 q2 q3 bi s0 s1 v0 v1) (ea : 64 * (a / 64) = a)
  (ha0 : ∀ (c : Fin 64) (l : Fin 128), ag0 (ix2 c l) = t.buf.AG (a + c) (0 + l))
  (ha1 : ∀ (c : Fin 64) (l : Fin 128), ag1 (ix2 c l) = t.buf.AG (a + c) (128 + l))
  (ha2 : ∀ (c : Fin 64) (l : Fin 128), ag2 (ix2 c l) = t.buf.AG (a + c) (256 + l))
  (ha3 : ∀ (c : Fin 64) (l : Fin 128), ag3 (ix2 c l) = t.buf.AG (a + c) (384 + l))
  {i0 i1 i2 i3}

include h ea ha0 ha1 ha2 ha3

/-- The four stores of a block whose exponentials are padded below. -/
theorem Agrees.below (hc : c0 = a) (hL : Agrees L fun y => t.mix (y 0) (y 1)) :
    Agrees (⟨Rect.unit (s := S1024x1024) ![a, 896] ![64, 128] i3,
      gate1 (pairT1 (keyHead padBelow (lowScores (blockScores k0 k1 q0 q1 q2 q3 bi)) s0 v0)
        (keyHead padBelow (highScores (blockScores k0 k1 q0 q1 q2 q3 bi)) s1 v1)) ag3⟩
      :: ⟨Rect.unit (s := S1024x1024) ![a, 768] ![64, 128] i2,
      gate0 (pairT1 (keyHead padBelow (lowScores (blockScores k0 k1 q0 q1 q2 q3 bi)) s0 v0)
        (keyHead padBelow (highScores (blockScores k0 k1 q0 q1 q2 q3 bi)) s1 v1)) ag2⟩
      :: ⟨Rect.unit (s := S1024x1024) ![a, 640] ![64, 128] i1,
      gate1 (pairT0 (keyHead padBelow (lowScores (blockScores k0 k1 q0 q1 q2 q3 bi)) s0 v0)
        (keyHead padBelow (highScores (blockScores k0 k1 q0 q1 q2 q3 bi)) s1 v1)) ag1⟩
      :: ⟨Rect.unit (s := S1024x1024) ![a, 512] ![64, 128] i0,
      gate0 (pairT0 (keyHead padBelow (lowScores (blockScores k0 k1 q0 q1 q2 q3 bi)) s0 v0)
        (keyHead padBelow (highScores (blockScores k0 k1 q0 q1 q2 q3 bi)) s1 v1)) ag0⟩ :: L) fun y => t.mix (y 0) (y 1) :=
  .cons2 (below3 h ea hc ha3) (.cons2 (below2 h ea hc ha2) (.cons2 (below1 h ea hc ha1) (.cons2 (below0 h ea hc ha0) hL)))

/-- The four stores of a block whose exponentials are padded above. -/
theorem Agrees.above (hc : c0 + 64 = a) (hL : Agrees L fun y => t.mix (y 0) (y 1)) :
    Agrees (⟨Rect.unit (s := S1024x1024) ![a, 896] ![64, 128] i3,
      gate1 (pairT1 (keyHead padAbove (lowScores (blockScores k0 k1 q0 q1 q2 q3 bi)) s0 v0)
        (keyHead padAbove (highScores (blockScores k0 k1 q0 q1 q2 q3 bi)) s1 v1)) ag3⟩
      :: ⟨Rect.unit (s := S1024x1024) ![a, 768] ![64, 128] i2,
      gate0 (pairT1 (keyHead padAbove (lowScores (blockScores k0 k1 q0 q1 q2 q3 bi)) s0 v0)
        (keyHead padAbove (highScores (blockScores k0 k1 q0 q1 q2 q3 bi)) s1 v1)) ag2⟩
      :: ⟨Rect.unit (s := S1024x1024) ![a, 640] ![64, 128] i1,
      gate1 (pairT0 (keyHead padAbove (lowScores (blockScores k0 k1 q0 q1 q2 q3 bi)) s0 v0)
        (keyHead padAbove (highScores (blockScores k0 k1 q0 q1 q2 q3 bi)) s1 v1)) ag1⟩
      :: ⟨Rect.unit (s := S1024x1024) ![a, 512] ![64, 128] i0,
      gate0 (pairT0 (keyHead padAbove (lowScores (blockScores k0 k1 q0 q1 q2 q3 bi)) s0 v0)
        (keyHead padAbove (highScores (blockScores k0 k1 q0 q1 q2 q3 bi)) s1 v1)) ag0⟩ :: L) fun y => t.mix (y 0) (y 1) :=
  .cons2 (above3 h ea hc ha3) (.cons2 (above2 h ea hc ha2) (.cons2 (above1 h ea hc ha1) (.cons2 (above0 h ea hc ha0) hL)))

end pieces

/-! ## The pool's four windows -/

section pool

/-- A doubling step. -/
def double (s : ℕ) (a : FVec Ideal S1040x128 .f32) : FVec Ideal S1040x128 .f32 :=
  addf a (dynamicRotate 0 (BitVec.ofNat 32 s) none a rotates_S1040x128_d0)

variable {u : FVec Ideal S1040x128 .f32} {p : FVec Ideal S1024x128 .f32} {g : ℕ}
  (hu : ∀ (r : Fin 1040) (n : Fin 128), u (ix2 r n) = t.U (0 + r) (128 * g + n))
  (hp : ∀ (r : Fin 1024) (n : Fin 128), p (ix2 r n) = ((1024 * t.T + r + 1 : ℕ) : EReal))

include hu in
theorem double_sum : (∀ (n : Fin 128) (r : Fin 1040), 1 ≤ (r : ℕ) → double 1 u (ix2 r n) = lastSum 1 (fun p => t.U p (128 * g + n)) r)
    ∧ (∀ (n : Fin 128) (r : Fin 1040), 3 ≤ (r : ℕ) →
      double 2 (double 1 u) (ix2 r n) = lastSum 2 (fun p => t.U p (128 * g + n)) r)
    ∧ (∀ (n : Fin 128) (r : Fin 1040), 7 ≤ (r : ℕ) →
      double 4 (double 2 (double 1 u)) (ix2 r n) = lastSum 3 (fun p => t.U p (128 * g + n)) r)
    ∧ ∀ (n : Fin 128) (r : Fin 1040), 15 ≤ (r : ℕ) →
      double 8 (double 4 (double 2 (double 1 u))) (ix2 r n) = lastSum 4 (fun p => t.U p (128 * g + n)) r := by
  have h1 (n : Fin 128) (r : Fin 1040) (hr : 1 ≤ (r : ℕ)) :
      double 1 u (ix2 r n) = lastSum 1 (fun p => t.U p (128 * g + n)) r :=
    twice_apply u 1 0 (by omega) _ n (fun r _ => (hu r n).trans (by rw [Nat.zero_add]; rfl)) r hr
  have h2 (n : Fin 128) (r : Fin 1040) (hr : 3 ≤ (r : ℕ)) :
      double 2 (double 1 u) (ix2 r n) = lastSum 2 (fun p => t.U p (128 * g + n)) r :=
    twice_apply _ 2 1 (by omega) _ n (h1 n) r hr
  have h3 (n : Fin 128) (r : Fin 1040) (hr : 7 ≤ (r : ℕ)) :
      double 4 (double 2 (double 1 u)) (ix2 r n) = lastSum 3 (fun p => t.U p (128 * g + n)) r :=
    twice_apply _ 4 3 (by omega) _ n (h2 n) r hr
  exact ⟨h1, h2, h3, fun n r hr => twice_apply _ 8 7 (by omega) _ n (h3 n) r hr⟩

include hu hp

theorem pool_piece {a : FVec Ideal S1040x128 .f32} {w : Ideal .f32} (hw : w = ((2 ^ (g + 1) : ℕ) : EReal))
    (ha : ∀ (n : Fin 128) (r : Fin 1040), 15 ≤ (r : ℕ) → a (ix2 r n) = lastSum (g + 1) (fun p => t.U p (128 * g + n)) r)
    (r : Fin 1024) (n : Fin 128) : poolOf a u p w (ix2 r n) = t.pooled (0 + r) (128 * g + n) := by
  rw [poolOf_apply a u p w g hw n (ha n) (fun p => (hu p n).trans (by rw [Nat.zero_add])) (fun r => hp r n) r, Nat.zero_add]

end pool

theorem pool_widths : FloatOps.ofBits (F := Ideal) FTy.f32 1073741824#32 = ((2 ^ (0 + 1) : ℕ) : EReal)
    ∧ FloatOps.ofBits (F := Ideal) FTy.f32 1082130432#32 = ((2 ^ (1 + 1) : ℕ) : EReal)
    ∧ FloatOps.ofBits (F := Ideal) FTy.f32 1090519040#32 = ((2 ^ (2 + 1) : ℕ) : EReal)
    ∧ FloatOps.ofBits (F := Ideal) FTy.f32 1098907648#32 = ((2 ^ (3 + 1) : ℕ) : EReal) := by
  refine ⟨?_, ?_, ?_, ?_⟩ <;>
  · show Ideal.ofBits FTy.f32 _ = _
    simp [Ideal.ofBits, Ideal.ieee, -EReal.coe_mul]
    norm_num
    rfl

/-! ## What a case is given -/

/-- The blocks of the arguments that every case reads. -/
structure Inputs (t : Tile) (x0 : Vec Ideal S1x1024x1024 .f32) (x3 : Vec Ideal S2x512 .f32) (x4 : Vec Ideal S2x8 .f32)
    (x6 x7 : Vec Ideal S2x1024 .f32) : Prop where
  x0 : ∀ (i : Fin 1) (r d : Fin 1024), x0 (ix3 i r d) = t.X r d
  x3 : ∀ n : Fin 512, x3 (ix2 1 n) = t.PS n
  x4 : ∀ j : Fin 8, x4 (ix2 1 j) = t.SK j
  x6 : ∀ d : Fin 1024, x6 (ix2 1 d) = t.GP d
  x7 : ∀ d : Fin 1024, x7 (ix2 1 d) = t.GO d

/-- The scratch that the first point fills and every other reads. -/
structure Tables (t : Tile) (xs8 : Vec Ideal S3x384x256 .f32) (xs9 : Vec Ideal S1024x2304 .bf16)
    (xs10 : Vec Ideal S1024x1024 .bf16) (xs11 : Vec Ideal S2x256x256 .bf16) : Prop where
  bias : ∀ (f : Fin 3) (r : Fin 384) (j : Fin 256), xs8 (ix3 f r j) = t.BI f r j
  wi : ∀ (d : Fin 1024) (n : Fin 2304), xs9 (ix2 d n) = t.WI d n
  wo : ∀ n d : Fin 1024, xs10 (ix2 n d) = t.WO n d
  pw : ∀ (i : Fin 2) (a b : Fin 256), xs11 (ix3 i a b) = t.PW i a b

/-- The scratch that carries the previous tile's last rows. -/
structure Halo (t : Tile) (xs0 : Vec Ideal S1040x512 .f32) (xs2 : Vec Ideal S2x1152x128 .bf16)
    (xs3 : Vec Ideal S128x1152 .bf16) : Prop where
  u : ∀ (p : Fin 1040) (n : Fin 512), (p : ℕ) < 16 → xs0 (ix2 p n) = t.HU p n
  k : ∀ (i : Fin 2) (p : Fin 1152) (l : Fin 128), (p : ℕ) < 128 → xs2 (ix3 i p l) = t.HK i p l
  v : ∀ (l : Fin 128) (p : Fin 1152), (p : ℕ) < 128 → xs3 (ix2 l p) = t.HV l p

theorem Inputs.holds {x0 : Vec Ideal S1x1024x1024 .f32} {x3 : Vec Ideal S2x512 .f32} {x4 : Vec Ideal S2x8 .f32}
    {x6 x7 : Vec Ideal S2x1024 .f32} (h : Inputs t x0 x3 x4 x6 x7) {arg2 : Memref sig .tc .vmem S1x1024x1024 .f32}
    (harg2 : arg2.IsWhole) {arg8 : Memref sig .tc .vmem S2x1024 .f32} (harg8 : arg8.IsWhole) :
    InputHolds t (View.readAt (Elt Ideal) arg2.view (Rect.unit (s := S1x1024x1024) ![0, 0, 0] S1x1024x1024.size
      inb_S1x1024x1024_S1x1024x1024_0_0_0).toLoadRect (harg2.unread x0))
      (View.readAt (Elt Ideal) arg8.view (Rect.unit (s := S2x1024) ![1, 0] S1x1024.size inb_S2x1024_S1x1024_1_0).toLoadRect
        (harg8.unread x6)) := by
  refine ⟨fun r d => ?_, fun d => ?_⟩
  · have e (y) : arg2.view.read (Elt Ideal) (harg2.unread x0) y = (fun _ r d => t.X r d) (y 0 : ℕ) (y 1 : ℕ) (y 2 : ℕ) :=
      read_whole3 (Val := Elt Ideal) (S := fun _ r d => t.X r d) arg2.view _ x0 (harg2.read_unread _) h.x0 y
    refine (readAt3 (Val := Elt Ideal) (S := fun _ r d => t.X r d) arg2.view _ e inb_S1x1024x1024_S1x1024x1024_0_0_0 0 r d).trans ?_
    simp
  · refine (readRow (Val := Elt Ideal) (S := t.GP) arg8.view _ x6 (harg8.read_unread _) h.x6 inb_S2x1024_S1x1024_1_0 d).trans ?_
    simp

/-- The pool's gate. -/
def Tile.PG (t : Tile) (r n : ℕ) : EReal := swish (t.pj r (512 + n))

theorem sinks_low_of {a0 a1 a2 a3 : EReal} (h0 : a0 = t.SK 0) (h1 : a1 = t.SK 1) (h2 : a2 = t.SK 2) (h3 : a3 = t.SK 3)
    (j : Fin 256) : k0_pay48 (F := Ideal) a0 a1 a2 a3 (ix2 0 j) = t.buf.SK 0 j := by
  subst h0 h1 h2 h3
  exact sinks_low (fun j => t.SK j) (fun _ => rfl) j

theorem sinks_high_of {a4 a5 a6 a7 : EReal} (h4 : a4 = t.SK 4) (h5 : a5 = t.SK 5) (h6 : a6 = t.SK 6) (h7 : a7 = t.SK 7)
    (j : Fin 256) : k0_pay51 (F := Ideal) (iota Kind.tc S1x256 32 [1] iota_S1x256_d1_w32) (k0_pay49 a4) k0_pay50 a5 a6 a7
      (ix2 0 j) = t.buf.SK 1 j := by
  subst h4 h5 h6 h7
  exact sinks_high (fun j => t.SK j) (fun _ => rfl) j

theorem off_zero {i : grid0.Coords} (hi : (i 1 : ℕ) = 1) (w : BitVec 32) : k0_off1 i w = ![0, 0, 0] := by
  unfold k0_off1
  rw [hi]
  rfl

theorem variant_two (t : Tile) {a : ℕ} (h : 128 ≤ a) : t.variant (a / 64) = 0 := by
  unfold Tile.variant
  split_ifs <;> omega

theorem variant_one (t : Tile) (hT : t.T = 1) (s : ℕ) : t.variant s = 0 := by simp [Tile.variant, hT]

end Cert.Layer

end
-- ==== Proof.Stored.lean ====
/-
  A tile whose buffers are filled by its own stores alone: what every later load of them gives.
-/
module

public import proofs.«01_k».proof.Proof.Sub
public import Idealize.ShloMosaic.Lib.WritesUnit
public import proofs.«01_k».proof.Proof.Gen.KernelIdeal.Value

@[expose] public section

set_option maxRecDepth 16384

noncomputable section

namespace Cert.Layer

open Idealize.ShloMosaic Idealize.ShloMosaic.TcCoe
open Cert.KernelIdeal Cert.KernelIdeal.Gen

/-- The lists of stores that fill queries, keys, values, the attention's gate, the pool's gate and the pools. -/
structure Stored (t : Tile) (LQ : List (View.Piece (Elt Ideal) S1024x512 .bf16))
    (LK : List (View.Piece (Elt Ideal) S2x1152x128 .bf16)) (LV : List (View.Piece (Elt Ideal) S128x1152 .bf16))
    (LA LG : List (View.Piece (Elt Ideal) S1024x512 .f32)) (LP : List (View.Piece (Elt Ideal) S1024x512 .bf16)) : Prop where
  q : ∀ y, View.canon LQ y = t.buf.Q (y 0) (y 1)
  k : ∀ y, View.canon LK y = t.buf.K (y 0) (y 1) (y 2)
  v : ∀ y, View.canon LV y = t.buf.V (y 0) (y 1)
  a : ∀ y, View.canon LA y = t.buf.AG (y 0) (y 1)
  g : ∀ y, View.canon LG y = t.PG (y 0) (y 1)
  p : ∀ y, View.canon LP y = t.pooled (y 0) (y 1)

/-- A first tile: nothing before it. -/
structure Tile.Fresh (t : Tile) : Prop where
  u : ∀ p n, t.HU p n = 0
  k : ∀ i p l, t.HK i p l = 0
  v : ∀ l p, t.HV l p = 0
  zero : t.T = 0

variable {t : Tile} {LQ : List (View.Piece (Elt Ideal) S1024x512 .bf16)}
    {LK : List (View.Piece (Elt Ideal) S2x1152x128 .bf16)} {LV : List (View.Piece (Elt Ideal) S128x1152 .bf16)}
    {LA LG : List (View.Piece (Elt Ideal) S1024x512 .f32)} {LP : List (View.Piece (Elt Ideal) S1024x512 .bf16)}
    (F : Stored t LQ LK LV LA LG LP)
  {arg12 : Memref sig .tc .vmem S1024x512 .bf16} {arg13 : Memref sig .tc .vmem S2x1152x128 .bf16}
  {arg14 : Memref sig .tc .vmem S128x1152 .bf16} {arg15 arg16 : Memref sig .tc .vmem S1024x512 .f32}
  {arg17 : Memref sig .tc .vmem S1024x512 .bf16}

include F in
/-- The loads of a block. -/
theorem Stored.reads {a c0 : ℕ} {bi : FVec Ideal S384x256 .f32} {s0 s1 : FVec Ideal S1x256 .f32}
    (hb : ∀ (r : Fin 384) (j : Fin 256), bi (ix2 r j) = t.BI (t.variant (a / 64)) r j)
    (hs0 : ∀ j : Fin 256, s0 (ix2 0 j) = t.buf.SK 0 j) (hs1 : ∀ j : Fin 256, s1 (ix2 0 j) = t.buf.SK 1 j)
    (i0 i1 i2 i3 i4 i5 i6 i7) :
    Reads t.buf (t.BI (t.variant (a / 64))) a c0
      (arg13.view.readCov LK (Rect.unit (s := S2x1152x128) ![0, a, 0] S1x192x128.size i0).toLoadRect)
      (arg13.view.readCov LK (Rect.unit (s := S2x1152x128) ![1, a, 0] S1x192x128.size i1).toLoadRect)
      (arg12.view.readCov LQ (Rect.unit (s := S1024x512) ![a, 0] S64x128.size i2).toLoadRect)
      (arg12.view.readCov LQ (Rect.unit (s := S1024x512) ![a, 128] S64x128.size i3).toLoadRect)
      (arg12.view.readCov LQ (Rect.unit (s := S1024x512) ![a, 256] S64x128.size i4).toLoadRect)
      (arg12.view.readCov LQ (Rect.unit (s := S1024x512) ![a, 384] S64x128.size i5).toLoadRect)
      bi s0 s1
      (arg14.view.readCov LV (Rect.unit (s := S128x1152) ![0, c0] S64x256.size i6).toLoadRect)
      (arg14.view.readCov LV (Rect.unit (s := S128x1152) ![64, c0] S64x256.size i7).toLoadRect) :=
  .of_loads (readCov3 _ _ 0 (fun y _ => F.k y) (Nat.zero_le _) _ 0) (readCov3 _ _ 0 (fun y _ => F.k y) (Nat.zero_le _) _ 0)
    (readCov2 _ _ 0 (fun y _ => F.q y) (Nat.zero_le _) _) (readCov2 _ _ 0 (fun y _ => F.q y) (Nat.zero_le _) _)
    (readCov2 _ _ 0 (fun y _ => F.q y) (Nat.zero_le _) _) (readCov2 _ _ 0 (fun y _ => F.q y) (Nat.zero_le _) _)
    hb hs0 hs1
    (readCov2 _ _ 0 (fun y _ => F.v y) (Nat.zero_le _) _) (readCov2 _ _ 0 (fun y _ => F.v y) (Nat.zero_le _) _)

include F in
/-- A load of the attention's gate. -/
theorem Stored.gate {a b : ℕ} (i0) (c : Fin 64) (l : Fin 128) :
    arg15.view.readCov LA (Rect.unit (s := S1024x512) ![a, b] S64x128.size i0).toLoadRect (ix2 c l)
      = t.buf.AG (a + c) (b + l) :=
  readCov2 (Val := Elt Ideal) (S := t.buf.AG) (a := a) (b := b) (m := 64) (n := 128) arg15.view LA 0 (fun y _ => F.a y)
    (Nat.zero_le _) i0 c l

include F in
/-- Half of the pool's channels. -/
theorem Stored.pool {i b : ℕ} (hi : i < 2) (hb : 256 * i = b) {w : FVec Ideal S1x256x256 .bf16} {s : FVec Ideal S1x256 .f32}
    (hw : ∀ a b : Fin 256, w (ix3 0 a b) = t.PW i a b) (hs : ∀ n : Fin 256, s (ix2 0 n) = t.PS (b + n)) (i0 i1)
    (r : Fin 1024) (n : Fin 256) :
    poolMix (arg17.view.readCov LP (Rect.unit (s := S1024x512) ![0, b] S1024x256.size i0).toLoadRect) w s
      (arg16.view.readCov LG (Rect.unit (s := S1024x512) ![0, b] S1024x256.size i1).toLoadRect) (ix2 r n)
      = t.mix (0 + r) (b + n) := by
  subst hb
  rw [Nat.zero_add]
  refine poolMix_apply _ _ _ _ i hi (fun r n => ?_) hw hs (fun r n => ?_) r n
  · exact (readCov2 (Val := Elt Ideal) (S := t.pooled) arg17.view _ 0 (fun y _ => F.p y) (Nat.zero_le _) i0 r n).trans
      (by rw [Nat.zero_add])
  · exact (readCov2 (Val := Elt Ideal) (S := t.PG) arg16.view _ 0 (fun y _ => F.g y) (Nat.zero_le _) i1 r n).trans
      (by rw [Nat.zero_add]; rfl)

/-- Half of the result's rows. -/
theorem out_rows {LM : List (View.Piece (Elt Ideal) S1024x1024 .bf16)} (hM : ∀ y, View.canon LM y = t.mix (y 0) (y 1))
    {arg2 : Memref sig .tc .vmem S1x1024x1024 .f32} {harg2 : arg2.IsWhole} {arg9 : Memref sig .tc .vmem S2x1024 .f32}
    {harg9 : arg9.IsWhole} {arg18 : Memref sig .tc .vmem S1024x1024 .bf16} {x0 : Vec Ideal S1x1024x1024 .f32}
    {x3 : Vec Ideal S2x512 .f32} {x4 : Vec Ideal S2x8 .f32} {x6 x7 : Vec Ideal S2x1024 .f32} (H : Inputs t x0 x3 x4 x6 x7)
    {w : Vec Ideal S1024x1024 .bf16} (hw : ∀ n d : Fin 1024, w (ix2 n d) = t.WO n d) {r0 : ℕ} (i0 i1 i2) (i : Fin 1)
    (r : Fin 512) (d : Fin 1024) :
    k0_pay1 (k0_pay275 (arg18.view.readCov LM (Rect.unit (s := S1024x1024) ![r0, 0] S512x1024.size i0).toLoadRect) w)
      (k0_pay276 (arg18.view.readCov LM (Rect.unit (s := S1024x1024) ![r0, 0] S512x1024.size i0).toLoadRect) w) k0_pay277
      (View.readAt (Elt Ideal) arg2.view (Rect.unit (s := S1x1024x1024) ![0, r0, 0] S1x512x1024.size i1).toLoadRect
        (harg2.unread x0))
      (View.readAt (Elt Ideal) arg9.view (Rect.unit (s := S2x1024) ![1, 0] S1x1024.size i2).toLoadRect (harg9.unread x7))
      (ix3 i r d) = t.out (r0 + r) (0 + d) := by
  rw [Subsingleton.elim i 0, Nat.zero_add]
  refine pay1_apply _ _ _ _ r0 (fun r n => ?_) hw (fun r d => ?_) (fun d => ?_) r d
  · exact (readCov2 (Val := Elt Ideal) (S := t.mix) (m := 512) (n := 1024) arg18.view LM 0 (fun y _ => hM y) (Nat.zero_le _)
      i0 r n).trans (by rw [Nat.zero_add])
  · exact (readAt3 (Val := Elt Ideal) (S := fun _ r d => t.X r d) (k := 1) (m := 512) (n := 1024) arg2.view (harg2.unread x0)
      (read_whole3 (Val := Elt Ideal) (S := fun _ r d => t.X r d) arg2.view _ x0 (harg2.read_unread _) H.x0) i1 0 r d).trans
        (by rw [Nat.zero_add])
  · exact (readRow (Val := Elt Ideal) (S := t.GO) (n := 1024) arg9.view _ x7 (harg9.read_unread _) H.x7 i2 d).trans
      (by rw [Nat.zero_add])

/-- The scale of the pools. -/
theorem scale_row {arg5 : Memref sig .tc .vmem S2x512 .f32} {harg5 : arg5.IsWhole} {x0 : Vec Ideal S1x1024x1024 .f32}
    {x3 : Vec Ideal S2x512 .f32} {x4 : Vec Ideal S2x8 .f32} {x6 x7 : Vec Ideal S2x1024 .f32} (H : Inputs t x0 x3 x4 x6 x7)
    {b : ℕ} (i0) (n : Fin 256) :
    View.readAt (Elt Ideal) arg5.view (Rect.unit (s := S2x512) ![1, b] S1x256.size i0).toLoadRect (harg5.unread x3) (ix2 0 n)
      = t.PS (b + n) :=
  readRow (Val := Elt Ideal) (S := t.PS) (b := b) arg5.view _ x3 (harg5.read_unread _) H.x3 i0 n

/-- The sinks. -/
theorem sink_cell {arg6 : Memref sig .tc .smem S2x8 .f32} {harg6 : arg6.IsWhole} {x0 : Vec Ideal S1x1024x1024 .f32}
    {x3 : Vec Ideal S2x512 .f32} {x4 : Vec Ideal S2x8 .f32} {x6 x7 : Vec Ideal S2x1024 .f32} (H : Inputs t x0 x3 x4 x6 x7)
    (j : Fin 8) (inb) (o) : View.readAt (Elt Ideal) arg6.view
    (Rect.unit (s := S2x8) ![1, j] S1x1.size inb).toLoadRect (harg6.unread x4) o = t.SK j :=
  readCell (Val := Elt Ideal) (S := t.SK) arg6.view _ x4 (harg6.read_unread _) H.x4 inb o

theorem off_first {i : grid0.Coords} (hi : (i 1 : ℕ) = 0) : k0_off1 i 2#32 = ![2, 0, 0] ∧ k0_off1 i 1#32 = ![1, 0, 0] := by
  unfold k0_off1
  rw [hi]
  exact ⟨rfl, rfl⟩

theorem Tile.Fresh.variant (h : t.Fresh) (s : ℕ) : t.variant s = 2 - s := by simp [Tile.variant, h.zero]

/-- Before a first tile lie zeros. -/
theorem fresh_u (h : t.Fresh) (r : Fin 16) (n : Fin 512) : k0_pay34 (F := Ideal) (ix2 r n) = t.U (0 + r) (0 + n) := by
  pointwise [k0_pay34]
  rw [Tile.U, if_pos (by omega), h.u]

theorem fresh_k (h : t.Fresh) (i : Fin 2) (r l : Fin 128) :
    k0_pay35 (F := Ideal) (ix3 i r l) = t.buf.K (0 + i) (0 + r) (0 + l) := by
  pointwise [k0_pay35]
  refine Eq.trans ?_ (if_pos r.isLt).symm
  rw [h.k]

theorem fresh_v (h : t.Fresh) (l r : Fin 128) : k0_pay36 (F := Ideal) (ix2 l r) = t.buf.V (0 + l) (0 + r) := by
  pointwise [k0_pay36]
  refine Eq.trans ?_ (if_pos r.isLt).symm
  rw [h.v]

/-- The rows that a tile hands on: a copy of the last rows to the first. -/
theorem halo_u {L : List (View.Piece (Elt Ideal) S1040x512 .f32)} (hL : ∀ y, View.canon L y = t.U (y 0) (y 1))
    {arg11 : Memref sig .tc .vmem S1040x512 .f32} {κ sp} {v : View sig κ sp S1040x512 .f32} {f} (i0 i1 h) (r : Fin 1040)
    (n : Fin 512) (hr : (r : ℕ) < 16) :
    v.read (Elt Ideal) (v.writes (Elt Ideal) f (⟨Rect.unit (s := S1040x512) ![0, 0] S16x512.size i0,
      shapeCast (s := S16x512) S16x512 (arg11.view.readCov L (Rect.unit (s := S1040x512) ![1024, 0] S16x512.size i1).toLoadRect) h⟩ :: L))
      (ix2 r n) = t.U (1024 + r) n := by
  rw [View.read_writes_cons_unit_of_mem v f i0 _ L (ix2 r n) (ix2 (⟨r, hr⟩ : Fin 16) n) rfl
    (fun a => by match a with | ⟨0, _⟩ => exact (Nat.zero_add _).symm | ⟨1, _⟩ => exact (Nat.zero_add _).symm)]
  pointwise []
  exact (readCov2 (Val := Elt Ideal) (S := t.U) (m := 16) (n := 512) arg11.view L 0 (fun y _ => hL y) (Nat.zero_le _) i1 ⟨r, hr⟩ n).trans
    (by rw [Nat.zero_add])

theorem halo_k {L : List (View.Piece (Elt Ideal) S2x1152x128 .bf16)} (hL : ∀ y, View.canon L y = t.buf.K (y 0) (y 1) (y 2))
    {arg13 : Memref sig .tc .vmem S2x1152x128 .bf16} {κ sp} {v : View sig κ sp S2x1152x128 .bf16} {f} (i0 i1 h) (i : Fin 2)
    (r : Fin 1152) (l : Fin 128) (hr : (r : ℕ) < 128) :
    v.read (Elt Ideal) (v.writes (Elt Ideal) f (⟨Rect.unit (s := S2x1152x128) ![0, 0, 0] S2x128x128.size i0,
      shapeCast (s := S2x128x128) S2x128x128 (arg13.view.readCov L (Rect.unit (s := S2x1152x128) ![0, 1024, 0] S2x128x128.size i1).toLoadRect) h⟩
        :: L)) (ix3 i r l) = t.buf.K i (1024 + r) l := by
  rw [View.read_writes_cons_unit_of_mem v f i0 _ L (ix3 i r l) (ix3 i (⟨r, hr⟩ : Fin 128) l) rfl
    (fun a => by
      match a with
      | ⟨0, _⟩ => exact (Nat.zero_add _).symm
      | ⟨1, _⟩ => exact (Nat.zero_add _).symm
      | ⟨2, _⟩ => exact (Nat.zero_add _).symm)]
  pointwise []
  exact (readCov3 (Val := Elt Ideal) (S := t.buf.K) (k := 2) (m := 128) (n := 128) arg13.view L 0 (fun y _ => hL y)
    (Nat.zero_le _) i1 i ⟨r, hr⟩ l).trans (by rw [Nat.zero_add, Nat.zero_add])

theorem halo_v {L : List (View.Piece (Elt Ideal) S128x1152 .bf16)} (hL : ∀ y, View.canon L y = t.buf.V (y 0) (y 1))
    {arg14 : Memref sig .tc .vmem S128x1152 .bf16} {κ sp} {v : View sig κ sp S128x1152 .bf16} {f} (i0 i1 h) (l : Fin 128)
    (r : Fin 1152) (hr : (r : ℕ) < 128) :
    v.read (Elt Ideal) (v.writes (Elt Ideal) f (⟨Rect.unit (s := S128x1152) ![0, 0] S128x128.size i0,
      shapeCast (s := S128x128) S128x128 (arg14.view.readCov L (Rect.unit (s := S128x1152) ![0, 1024] S128x128.size i1).toLoadRect) h⟩ :: L))
      (ix2 l r) = t.buf.V l (1024 + r) := by
  rw [View.read_writes_cons_unit_of_mem v f i0 _ L (ix2 l r) (ix2 l (⟨r, hr⟩ : Fin 128)) rfl
    (fun a => by match a with | ⟨0, _⟩ => exact (Nat.zero_add _).symm | ⟨1, _⟩ => exact (Nat.zero_add _).symm)]
  pointwise []
  exact (readCov2 (Val := Elt Ideal) (S := t.buf.V) (m := 128) (n := 128) arg14.view L 0 (fun y _ => hL y) (Nat.zero_le _) i1 l
    ⟨r, hr⟩).trans (by rw [Nat.zero_add])

end Cert.Layer

end
-- ==== Proof.Setup.lean ====
/-
  The tables that the first point makes: bias, permuted weights, and the pool's weights in blocks.
-/
module

public import proofs.«01_k».proof.Proof.Stored

@[expose] public section

set_option maxRecDepth 16384

noncomputable section

namespace Cert.Layer

open Idealize.ShloMosaic Idealize.ShloMosaic.TcCoe
open Cert.KernelIdeal Cert.KernelIdeal.Gen

/-- The slope of a query head. -/
def slope (h : ℕ) : ℝ := (2 : ℝ)⁻¹ ^ (h + 1)

/-- An entry of a bias table: key row `r` of 192, query row and head `j`, of the key head `kv`; table `f` leaves out the
    first `64 * f` keys. -/
def biasAt (kv f r j : ℕ) : EReal :=
  if r ≤ j % 64 + 128 ∧ j % 64 < r ∧ 64 * f ≤ r then
    (0 - (slope (4 * kv + j / 64) : EReal)) * ((j % 64 + 128 - r : ℕ) : EReal) * (((Real.log 2)⁻¹ : ℝ) : EReal)
  else ⊥

theorem low_bits : ∀ j : Fin 256, BitVec.ofNat 32 j &&& 63#32 = BitVec.ofNat 32 (j % 64) := by decide +kernel

/-- Whether a key lies in a query's window of 128. -/
theorem window_word : ∀ (a : Fin 64) (r : Fin 192),
    IntOp.andi (IntOp.cmpi .sge (IntOp.subi (IntOp.addi (BitVec.ofNat 32 a) 128#32) (BitVec.ofNat 32 r)) 0#32)
      (IntOp.cmpi .slt (IntOp.subi (IntOp.addi (BitVec.ofNat 32 a) 128#32) (BitVec.ofNat 32 r)) 128#32)
      = BitVec.ofBool (decide ((r : ℕ) ≤ a + 128 ∧ (a : ℕ) < r)) := by
  decide +kernel

theorem window_apply (r : Fin 192) (j : Fin 256) :
    k0_pay3 (ix2 r j) = BitVec.ofBool (decide ((r : ℕ) ≤ j % 64 + 128 ∧ (j : ℕ) % 64 < r)) := by
  pointwise [k0_pay3, k0_pay2]
  rw [show IntOp.andi (BitVec.ofNat 32 (j : ℕ)) 63#32 = BitVec.ofNat 32 (j % 64) from low_bits j]
  exact window_word ⟨j % 64, by omega⟩ r

theorem distance_apply (r : Fin 192) (j : Fin 256) (h : (r : ℕ) ≤ j % 64 + 128) :
    k0_pay4 (F := Ideal) (ix2 r j) = ((j % 64 + 128 - r : ℕ) : EReal) := by
  pointwise [k0_pay4, k0_pay2]
  rw [show IntOp.andi (BitVec.ofNat 32 (j : ℕ)) 63#32 = BitVec.ofNat 32 (j % 64) from low_bits j,
    ← sitofp_ofNat (n := j % 64 + 128 - r) (by omega)]
  refine congrArg _ (BitVec.eq_of_toNat_eq ?_)
  simp [IntOp.addi, IntOp.subi]
  omega

theorem slope_words : (Ideal.ofBits FTy.f32 1056964608#32 = (slope 0 : EReal) ∧ Ideal.ofBits FTy.f32 1048576000#32 = (slope 1 : EReal)
    ∧ Ideal.ofBits FTy.f32 1040187392#32 = (slope 2 : EReal) ∧ Ideal.ofBits FTy.f32 1031798784#32 = (slope 3 : EReal))
    ∧ Ideal.ofBits FTy.f32 1023410176#32 = (slope 4 : EReal) ∧ Ideal.ofBits FTy.f32 1015021568#32 = (slope 5 : EReal)
    ∧ Ideal.ofBits FTy.f32 1006632960#32 = (slope 6 : EReal) ∧ Ideal.ofBits FTy.f32 998244352#32 = (slope 7 : EReal) := by
  refine ⟨⟨?_, ?_, ?_, ?_⟩, ?_, ?_, ?_, ?_⟩ <;> simp [Ideal.ofBits, Ideal.ieee, slope, -EReal.coe_mul] <;> norm_num

/-- A choice among four by the quarter of 256 lanes. -/
theorem quarter (k : ℕ) (j : Fin 256) {s0 s1 s2 s3 z : EReal} (h : s0 = (slope k : EReal) ∧ s1 = (slope (k + 1) : EReal)
    ∧ s2 = (slope (k + 2) : EReal) ∧ s3 = (slope (k + 3) : EReal)) :
    Scalar.select (IntOp.cmpi CmpIPredicate.sge (BitVec.ofNat 32 j) 192#32) s3
      (Scalar.select (IntOp.cmpi CmpIPredicate.sge (BitVec.ofNat 32 j) 128#32) s2
        (Scalar.select (IntOp.cmpi CmpIPredicate.sge (BitVec.ofNat 32 j) 64#32) s1
          (Scalar.select (IntOp.cmpi CmpIPredicate.sge (BitVec.ofNat 32 j) 0#32) s0 z))) = (slope (k + j / 64) : EReal) := by
  obtain ⟨rfl, rfl, rfl, rfl⟩ := h
  rw [select_sge (b := 192) (by omega) (by omega), select_sge (b := 128) (by omega) (by omega),
    select_sge (b := 64) (by omega) (by omega), select_sge (b := 0) (by omega) (by omega)]
  split_ifs with h3 h2 h1 h0
  · rw [show (j : ℕ) / 64 = 3 by omega]
  · rw [show (j : ℕ) / 64 = 2 by omega]
  · rw [show (j : ℕ) / 64 = 1 by omega]
  · rw [show (j : ℕ) / 64 = 0 by omega, Nat.add_zero]
  · omega

theorem near_apply (r : Fin 192) (j : Fin 256) (h : (r : ℕ) ≤ j % 64 + 128) : k0_pay5 (F := Ideal) (ix2 r j)
    = (0 - (slope (4 * 0 + j / 64) : EReal)) * ((j % 64 + 128 - r : ℕ) : EReal) * (((Real.log 2)⁻¹ : ℝ) : EReal) := by
  rw [← distance_apply r j h]
  pointwise [k0_pay5]
  rw [quarter 0 j slope_words.1, IdealRules.named_const.ideal_named_scalar κ "log2e" _ _ rfl, Nat.zero_add]

theorem far_apply (r : Fin 192) (j : Fin 256) (h : (r : ℕ) ≤ j % 64 + 128) :
    k0_pay12 (F := Ideal) k0_pay4 (k0_pay10 (iota Kind.tc S192x256 32 [1] iota_S192x256_d1_w32)) k0_pay11 (ix2 r j)
    = (0 - (slope (4 * 1 + j / 64) : EReal)) * ((j % 64 + 128 - r : ℕ) : EReal) * (((Real.log 2)⁻¹ : ℝ) : EReal) := by
  rw [← distance_apply r j h]
  pointwise [k0_pay12, k0_pay10, k0_pay11]
  rw [quarter 4 j slope_words.2, IdealRules.named_const.ideal_named_scalar κ "log2e" _ _ rfl]

/-- An entry of a table from its mask and its value. -/
theorem entry {kv f : ℕ} {r : Fin 192} {j : Fin 256} {z m : EReal} {b : BitVec 32} (hb : b = BitVec.ofNat 32 (64 * f))
    (hf : f < 3)
    (hz : (r : ℕ) ≤ j % 64 + 128 →
      z = (0 - (slope (4 * kv + j / 64) : EReal)) * ((j % 64 + 128 - r : ℕ) : EReal) * (((Real.log 2)⁻¹ : ℝ) : EReal))
    (hm : m = ⊥) :
    Scalar.select (IntOp.andi (k0_pay3 (ix2 r j)) (IntOp.cmpi CmpIPredicate.sge (BitVec.ofNat 32 r) b)) z m = biasAt kv f r j := by
  subst hb hm
  rw [window_apply, WordCmp.cmpi_sge_ofNat (by omega) (by omega), WordCmp.andi_ofBool, biasAt]
  by_cases h : ((r : ℕ) ≤ j % 64 + 128 ∧ (j : ℕ) % 64 < r) ∧ 64 * f ≤ r
  · rw [if_pos ⟨h.1.1, h.1.2, h.2⟩, ← hz h.1.1]
    simp [h, Scalar.select]
  · rw [if_neg fun h' => h ⟨⟨h'.1, h'.2.1⟩, h'.2.2⟩]
    have e : (decide ((r : ℕ) ≤ j % 64 + 128 ∧ (j : ℕ) % 64 < r) && decide (64 * f ≤ (r : ℕ))) = false := by
      rw [← Bool.decide_and]
      exact decide_eq_false h
    rw [e]
    rfl

theorem mask_word : (Named.named (F := Ideal) κ "mask" (φ := .f32) 0xF149F2CA#32) = (⊥ : EReal) :=
  IdealRules.named_const.ideal_named_scalar κ "mask" _ _ rfl

/-- The tables' six stores. -/
theorem table_entries (r : Fin 192) (j : Fin 256) :
    (k0_pay7 (F := Ideal) k0_pay6 (ix3 0 r j) = biasAt 0 0 r j
      ∧ k0_pay8 (F := Ideal) (iota Kind.tc S192x256 32 [0] iota_S192x256_d0_w32) k0_pay3 k0_pay5 (ix3 0 r j) = biasAt 0 1 r j
      ∧ k0_pay9 (F := Ideal) (iota Kind.tc S192x256 32 [0] iota_S192x256_d0_w32) k0_pay3 k0_pay5 (ix3 0 r j) = biasAt 0 2 r j)
    ∧ (k0_pay13 (F := Ideal) (iota Kind.tc S192x256 32 [0] iota_S192x256_d0_w32) k0_pay3 k0_pay4
          (k0_pay10 (iota Kind.tc S192x256 32 [1] iota_S192x256_d1_w32)) k0_pay11 (ix3 0 r j) = biasAt 1 0 r j
      ∧ k0_pay14 (F := Ideal) (iota Kind.tc S192x256 32 [0] iota_S192x256_d0_w32) k0_pay3 k0_pay4
          (k0_pay10 (iota Kind.tc S192x256 32 [1] iota_S192x256_d1_w32)) k0_pay11 (ix3 0 r j) = biasAt 1 1 r j
      ∧ k0_pay15 (F := Ideal) (iota Kind.tc S192x256 32 [0] iota_S192x256_d0_w32) k0_pay3 k0_pay4
          (k0_pay10 (iota Kind.tc S192x256 32 [1] iota_S192x256_d1_w32)) k0_pay11 (ix3 0 r j) = biasAt 1 2 r j) := by
  refine ⟨⟨?_, ?_, ?_⟩, ?_, ?_, ?_⟩
  · pointwise [k0_pay7, k0_pay6]
    exact entry (f := 0) rfl (by omega) (near_apply r j) mask_word
  · pointwise [k0_pay8]
    exact entry (f := 1) rfl (by omega) (near_apply r j) mask_word
  · pointwise [k0_pay9]
    exact entry (f := 2) rfl (by omega) (near_apply r j) mask_word
  · pointwise [k0_pay13]
    exact entry (f := 0) rfl (by omega) (far_apply r j) mask_word
  · pointwise [k0_pay14]
    exact entry (f := 1) rfl (by omega) (far_apply r j) mask_word
  · pointwise [k0_pay15]
    exact entry (f := 2) rfl (by omega) (far_apply r j) mask_word

/-! ## The order of the query columns -/

/-- The column of the layer's weights that the kernel keeps at column `n`: the two key heads' queries interleaved. -/
def source (n : ℕ) : ℕ := n / 64 % 2 * 256 + n / 128 * 64 + n % 64

theorem source_lt {n : ℕ} (h : n < 512) : source n < 512 := by unfold source; omega

theorem source_word : ∀ n : Fin 512, IntOp.addi
      (IntOp.addi (IntOp.muli (IntOp.andi (IntOp.shrsi ArithUnit.vector (BitVec.ofNat 32 n) 6#32) 1#32) 256#32)
        (IntOp.muli (IntOp.shrsi ArithUnit.vector (BitVec.ofNat 32 n) 7#32) 64#32))
      (IntOp.andi (BitVec.ofNat 32 n) 63#32) = BitVec.ofNat 32 (n / 64 % 2 * 256 + n / 128 * 64 + n % 64) := by
  decide +kernel

/-- The matrix that gathers the columns. -/
def gather : FVec Ideal S512x512 .bf16 :=
  k0_pay18 (iota .tc S512x512 32 [0] iota_S512x512_d0_w32) (iota .tc S512x512 32 [1] iota_S512x512_d1_w32) k0_pay16 k0_pay17

theorem select_eq {a b : ℕ} (ha : a < 2 ^ 32) (hb : b < 2 ^ 32) (x y : EReal) :
    Scalar.select (IntOp.cmpi CmpIPredicate.eq (BitVec.ofNat 32 a) (BitVec.ofNat 32 b)) x y = if a = b then x else y := by
  rw [WordCmp.cmpi_eq_eq]
  by_cases h : a = b
  · simp [h, Scalar.select]
  · have e : ¬ BitVec.ofNat 32 a = BitVec.ofNat 32 b := fun e => h ((WordCmp.ofNat_eq_ofNat_iff ha hb).mp e)
    rw [if_neg h, decide_eq_false e]
    rfl

theorem gather_apply (k n : Fin 512) : gather (ix2 k n) = if (k : ℕ) = source n then 1 else 0 := by
  pointwise [gather, k0_pay18, k0_pay16, k0_pay17]
  rw [source_word n]
  exact select_eq (by omega) (by have := source_lt n.isLt; unfold source at this; omega) _ _

theorem scatter_apply (n k : Fin 512) :
    k0_pay19 (F := Ideal) (iota .tc S512x512 32 [0] iota_S512x512_d0_w32) (iota .tc S512x512 32 [1] iota_S512x512_d1_w32) (ix2 n k)
      = if (k : ℕ) = source n then 1 else 0 := by
  pointwise [k0_pay19]
  rw [source_word n]
  exact select_eq (by omega) (by have := source_lt n.isLt; unfold source at this; omega) _ _

theorem sum_source (n : Fin 512) (f : ℕ → EReal) :
    ∑ k : Fin 512, f k * (if (k : ℕ) = source n then 1 else 0) = f (source n) := by
  rw [Finset.sum_eq_single ⟨source n, source_lt n.isLt⟩]
  · simp
  · intro k _ hk
    rw [if_neg fun h => hk (Fin.ext h), mul_zero]
  · simp

/-! ## The weights -/

/-- The input weights as the kernel keeps them. -/
def winOf (S : ℕ → ℕ → EReal) (d n : ℕ) : EReal :=
  if n < 1024 then S d n else if n < 1536 then S d (1024 + source (n - 1024)) else if n < 1792 then S d n
    else S d (1792 + source (n - 1792))

/-- The output weights as the kernel keeps them. -/
def woutOf (S : ℕ → ℕ → EReal) (n d : ℕ) : EReal := if n < 512 then S n d else S (512 + source (n - 512)) d

/-- The pool's weights as the kernel keeps them: two groups of channels in one matrix. -/
def poolWOf (S : ℕ → ℕ → ℕ → EReal) (i a b : ℕ) : EReal :=
  if a / 128 = b / 128 then S (2 * i + a / 128) (a % 128) (b % 128) else 0

variable {S : ℕ → ℕ → EReal}

theorem gathered (w : Vec Ideal S1x1024x512 .f32) (b : ℕ) (h : ∀ (d : Fin 1024) (n : Fin 512), w (ix3 0 d n) = S d (b + n))
    (d : Fin 1024) (n : Fin 512) :
    k0_pay25 gather w (ix2 d n) = S d (b + source n) ∧ k0_pay23 gather w (ix2 d n) = S d (b + source n) := by
  constructor
  · pointwise [k0_pay25]
    simp only [h, gather_apply]
    exact sum_source n fun k => S d (b + k)
  · pointwise [k0_pay23]
    simp only [h, gather_apply]
    exact sum_source n fun k => S d (b + k)

theorem scattered (w : Vec Ideal S1x512x1024 .f32) (b : ℕ) (h : ∀ (n : Fin 512) (d : Fin 1024), w (ix3 0 n d) = S (b + n) d)
    (n : Fin 512) (d : Fin 1024) :
    k0_pay27 (k0_pay19 (iota .tc S512x512 32 [0] iota_S512x512_d0_w32) (iota .tc S512x512 32 [1] iota_S512x512_d1_w32)) w (ix2 n d)
      = S (b + source n) d := by
  pointwise [k0_pay27]
  refine (Finset.sum_congr rfl fun k _ => ?_).trans (sum_source n fun k => S (b + k) d)
  rw [mul_comm, scatter_apply n k, h k d]

theorem plain_columns (w : Vec Ideal S1x1024x512 .f32) (b : ℕ) (h : ∀ (d : Fin 1024) (n : Fin 512), w (ix3 0 d n) = S d (b + n))
    (d : Fin 1024) (n : Fin 512) : k0_pay20 w (ix2 d n) = S d (b + n) ∧ k0_pay22 (k0_pay21 w) (ix2 d n) = S d (b + n) := by
  constructor
  · pointwise [k0_pay20]
    exact h d n
  · pointwise [k0_pay22, k0_pay21]
    exact h d n

theorem key_columns (w : Vec Ideal S1x1024x256 .f32) (b : ℕ) (h : ∀ (d : Fin 1024) (n : Fin 256), w (ix3 0 d n) = S d (b + n))
    (d : Fin 1024) (n : Fin 256) : k0_pay24 w (ix2 d n) = S d (b + n) := by
  pointwise [k0_pay24]
  exact h d n

theorem plain_rows (w : Vec Ideal S1x512x1024 .f32) (b : ℕ) (h : ∀ (n : Fin 512) (d : Fin 1024), w (ix3 0 n d) = S (b + n) d)
    (n : Fin 512) (d : Fin 1024) : k0_pay26 w (ix2 n d) = S (b + n) d := by
  pointwise [k0_pay26]
  exact h n d

theorem group_block (w : Vec Ideal S1x1x128x128 .f32) (S : ℕ → ℕ → EReal)
    (h : ∀ a b : Fin 128, w (ix4 0 0 a b) = S a b) (i : Fin 1) (a b : Fin 128) :
    (k0_pay29 w (ix3 i a b) = S a b ∧ k0_pay30 w (ix3 i a b) = S a b) ∧ k0_pay32 (k0_pay31 w) (ix3 i a b) = S a b
      ∧ k0_pay33 w (ix3 i a b) = S a b := by
  refine ⟨⟨?_, ?_⟩, ?_, ?_⟩
  · pointwise [k0_pay29]
    exact h a b
  · pointwise [k0_pay30]
    exact h a b
  · pointwise [k0_pay32, k0_pay31]
    exact h a b
  · pointwise [k0_pay33]
    exact h a b

/-- The raw weights by coordinates, and a tile whose tables are made of them. -/
structure Raw (t : Tile) (x1 : Vec Ideal S1x1024x2304 .f32) (x2 : Vec Ideal S1x4x128x128 .f32) (x5 : Vec Ideal S1x1024x1024 .f32)
    (S1 : ℕ → ℕ → EReal) (S2 : ℕ → ℕ → ℕ → EReal) (S5 : ℕ → ℕ → EReal) : Prop where
  x1 : ∀ (i : Fin 1) (d : Fin 1024) (n : Fin 2304), x1 (ix3 i d n) = S1 d n
  x2 : ∀ (g : Fin 4) (a b : Fin 128), x2 (ix4 0 g a b) = S2 g a b
  x5 : ∀ (i : Fin 1) (n d : Fin 1024), x5 (ix3 i n d) = S5 n d
  bi : ∀ f r j, t.BI f r j = biasAt (r / 192) f (r % 192) j
  wi : ∀ d n, t.WI d n = winOf S1 d n
  wo : ∀ n d, t.WO n d = woutOf S5 n d
  pw : ∀ i a b, t.PW i a b = poolWOf S2 i a b

section blocks

variable {sig : RefSig} {κ : Kind} {sp : Space} {e : EltTy} {Val : EltTy → Type}

/-- A load of one group's weights. -/
theorem read_group (v : View sig κ sp S1x4x128x128 e) (f : v.ty.Contents Val) (x : S1x4x128x128.Idx → Val e)
    (hf : v.read Val f = x) {S : ℕ → ℕ → ℕ → Val e} (h : ∀ (g : Fin 4) (a b : Fin 128), x (ix4 0 g a b) = S g a b) (g : ℕ)
    (inb) (a b : Fin 128) :
    v.readAt Val (Rect.unit (s := S1x4x128x128) ![0, g, 0, 0] S1x1x128x128.size inb).toLoadRect f (ix4 0 0 a b) = S g a b := by
  have hg : g + 1 ≤ 4 := inb 1
  have e : (Rect.unit (s := S1x4x128x128) ![0, g, 0, 0] S1x1x128x128.size inb).toLoadRect.idx (ix4 0 0 a b)
      = ix4 0 ⟨g, by omega⟩ a b := by
    funext i
    fin_cases i
    · rfl
    · rfl
    · exact Fin.ext (show 0 + 1 * (a : ℕ) = a by omega)
    · exact Fin.ext (show 0 + 1 * (b : ℕ) = b by omega)
  rw [View.readAt_apply, hf, e, h]

/-- A buffer whose last store agrees with a function reads it where that store reaches, and else what was there before. -/
theorem fills3 [∀ e, Nonempty (Val e)] {K R C k m n : ℕ} {S : ℕ → ℕ → ℕ → Val e} {z a b : ℕ} {inb}
    {w : (Rect.unit (s := ⟨3, ![K, R, C]⟩) ![z, a, b] ![k, m, n] inb).shape.Idx → Val e}
    {L : List (View.Piece Val ⟨3, ![K, R, C]⟩ e)} (y : (⟨3, ![K, R, C]⟩ : Shape).Idx)
    (h : ∀ (i : Fin k) (c : Fin m) (l : Fin n), w (ix3 i c l) = S (z + i) (a + c) (b + l))
    (hL : ((z ≤ (y 0 : ℕ) ∧ (y 0 : ℕ) < z + k) → (a ≤ (y 1 : ℕ) ∧ (y 1 : ℕ) < a + m) → (b ≤ (y 2 : ℕ) ∧ (y 2 : ℕ) < b + n) → False)
      → View.canon L y = S (y 0) (y 1) (y 2)) :
    View.canon (⟨Rect.unit (s := ⟨3, ![K, R, C]⟩) ![z, a, b] ![k, m, n] inb, w⟩ :: L) y = S (y 0) (y 1) (y 2) := by
  by_cases hy : y ∈ (Rect.unit (s := ⟨3, ![K, R, C]⟩) ![z, a, b] ![k, m, n] inb).set
  · obtain ⟨x, rfl⟩ := (Rect.unit (s := ⟨3, ![K, R, C]⟩) ![z, a, b] ![k, m, n] inb).exists_idx_of_mem hy
    exact (View.canon_cons_emb (Rect.unit (s := ⟨3, ![K, R, C]⟩) ![z, a, b] ![k, m, n] inb) w L x).trans (piece3 inb w h x)
  · refine (View.canon_cons_of_not_mem (⟨Rect.unit (s := ⟨3, ![K, R, C]⟩) ![z, a, b] ![k, m, n] inb, w⟩) L hy).trans ?_
    exact hL fun h0 h1 h2 => hy ((Rect.mem_set_unit (inb := inb)).mpr fun i => match i with
      | ⟨0, _⟩ => h0
      | ⟨1, _⟩ => h1
      | ⟨2, _⟩ => h2)

end blocks

theorem zero_block (i : Fin 2) (a b : Fin 256) : k0_pay28 (F := Ideal) (ix3 i a b) = 0 := by
  pointwise [k0_pay28]

end Cert.Layer

end
-- ==== Proof.Args.lean ====
/-
  The layer's arguments by coordinates, and the two tiles of a batch that the kernel makes of them.
-/
module

public import proofs.«01_k».proof.Proof.Setup

@[expose] public section

set_option maxRecDepth 16384

noncomputable section

namespace Cert.Layer

open Idealize.ShloMosaic

/-- An array of one axis by its coordinate, 0 outside. -/
def ext1 {A : ℕ} (f : (⟨1, ![A]⟩ : Shape).Idx → EReal) (a : ℕ) : EReal := if h : a < A then f (ix1 ⟨a, h⟩) else 0

/-- An array of two axes by its coordinates, 0 outside. -/
def ext2 {A B : ℕ} (f : (⟨2, ![A, B]⟩ : Shape).Idx → EReal) (a b : ℕ) : EReal :=
  if h : a < A ∧ b < B then f (ix2 ⟨a, h.1⟩ ⟨b, h.2⟩) else 0

/-- An array of three axes by its coordinates, 0 outside. -/
def ext3 {A B C : ℕ} (f : (⟨3, ![A, B, C]⟩ : Shape).Idx → EReal) (a b c : ℕ) : EReal :=
  if h : a < A ∧ b < B ∧ c < C then f (ix3 ⟨a, h.1⟩ ⟨b, h.2.1⟩ ⟨c, h.2.2⟩) else 0

/-- An array of four axes by its coordinates, 0 outside. -/
def ext4 {A B C D : ℕ} (f : (⟨4, ![A, B, C, D]⟩ : Shape).Idx → EReal) (a b c d : ℕ) : EReal :=
  if h : a < A ∧ b < B ∧ c < C ∧ d < D then f (ix4 ⟨a, h.1⟩ ⟨b, h.2.1⟩ ⟨c, h.2.2.1⟩ ⟨d, h.2.2.2⟩) else 0

theorem ext2_of {A B : ℕ} (f : (⟨2, ![A, B]⟩ : Shape).Idx → EReal) {a b : ℕ} (ha : a < A) (hb : b < B) :
    f (ix2 ⟨a, ha⟩ ⟨b, hb⟩) = ext2 f a b := by
  rw [ext2, dif_pos ⟨ha, hb⟩]

theorem ext3_of {A B C : ℕ} (f : (⟨3, ![A, B, C]⟩ : Shape).Idx → EReal) {a b c : ℕ} (ha : a < A) (hb : b < B) (hc : c < C) :
    f (ix3 ⟨a, ha⟩ ⟨b, hb⟩ ⟨c, hc⟩) = ext3 f a b c := by
  rw [ext3, dif_pos ⟨ha, hb, hc⟩]

theorem ext4_of {A B C D : ℕ} (f : (⟨4, ![A, B, C, D]⟩ : Shape).Idx → EReal) {a b c d : ℕ} (ha : a < A) (hb : b < B)
    (hc : c < C) (hd : d < D) : f (ix4 ⟨a, ha⟩ ⟨b, hb⟩ ⟨c, hc⟩ ⟨d, hd⟩) = ext4 f a b c d := by
  rw [ext4, dif_pos ⟨ha, hb, hc, hd⟩]

/-- The layer's arguments by coordinates. -/
structure Args where
  /-- The input: batch, token, channel. -/
  X : ℕ → ℕ → ℕ → EReal
  /-- The input weights. -/
  W : ℕ → ℕ → EReal
  /-- The pool's weights, per group. -/
  P : ℕ → ℕ → ℕ → EReal
  /-- The pool's scale. -/
  PS : ℕ → EReal
  /-- The sinks. -/
  SK : ℕ → EReal
  /-- The output weights. -/
  WO : ℕ → ℕ → EReal
  /-- The gain of the first normalization. -/
  GP : ℕ → EReal
  /-- The gain of the second normalization. -/
  GO : ℕ → EReal

namespace Args

variable (a : Args)

/-- A batch's first tile. -/
def first (b : ℕ) : Tile where
  X := a.X b
  GP := a.GP
  WI := winOf a.W
  PW := poolWOf a.P
  PS := a.PS
  SK := a.SK
  WO := woutOf a.WO
  GO := a.GO
  BI f r j := biasAt (r / 192) f (r % 192) j
  HU _ _ := 0
  HK _ _ _ := 0
  HV _ _ := 0
  T := 0

/-- A batch's second tile: it continues from the first one's last rows. -/
def second (b : ℕ) : Tile where
  X r := a.X b (1024 + r)
  GP := a.GP
  WI := winOf a.W
  PW := poolWOf a.P
  PS := a.PS
  SK := a.SK
  WO := woutOf a.WO
  GO := a.GO
  BI f r j := biasAt (r / 192) f (r % 192) j
  HU p n := (a.first b).U (1024 + p) n
  HK i p l := (a.first b).buf.K i (1024 + p) l
  HV l p := (a.first b).buf.V l (1024 + p)
  T := 1

/-- A batch's tile by its number. -/
def tile (b T : ℕ) : Tile := if T = 0 then a.first b else a.second b

theorem first_fresh (b : ℕ) : (a.first b).Fresh := by
  constructor <;> intros <;> rfl

end Args

end Cert.Layer

end
-- ==== Proof.Spec.lean ====
/-
  The layer written plainly by coordinates: what the reference computes.
-/
module

public import proofs.«01_k».proof.Proof.Args

@[expose] public section

set_option maxRecDepth 16384

noncomputable section

namespace Cert.Layer.Args

open Idealize.ShloMosaic

variable (a : Args) (b : ℕ)

/-- The normalized input. -/
def hr (s d : ℕ) : EReal := a.X b s d * rootMean (a.X b s) * a.GP d

/-- The projections. -/
def pr (s n : ℕ) : EReal := ∑ k : Fin 1024, a.hr b s k * a.W k n

/-- The pool: the mean over a window of tokens minus the token itself. -/
def poolr (s n : ℕ) : EReal :=
  Ideal.div (∑ t : Fin 2048, a.pr b t n * (if (t : ℕ) ≤ s ∧ s < t + 2 ^ (n / 128 + 1) then 1 else 0))
    ((min (s + 1) (2 ^ (n / 128 + 1)) : ℕ) : EReal) - a.pr b s n

/-- The score of a key token `t` for a query token `s` of a head. -/
def score (hd s t : ℕ) : EReal :=
  if t ≤ s ∧ s < t + 128 then
    (∑ l : Fin 64, a.pr b t (1536 + 64 * (hd / 4) + l) * a.pr b s (1024 + 64 * hd + l)) * ((8 : ℝ)⁻¹ : ℝ)
      + (0 - (slope hd : EReal)) * ((s - t : ℕ) : EReal)
  else ⊥

/-- The largest of a query's scores and its head's sink. -/
def top (hd s : ℕ) : EReal := max (Finset.univ.fold max ⊥ fun t : Fin 2048 => a.score b hd s t) (a.SK hd)

/-- The score of a key token, or the sink after them. -/
def logit (hd s t : ℕ) : EReal := if t < 2048 then a.score b hd s t else a.SK hd

/-- The softmax's divisor. -/
def mass (hd s : ℕ) : EReal :=
  (∑ t : Fin 2048, Ideal.exp (a.score b hd s t - a.top b hd s)) + Ideal.exp (a.SK hd - a.top b hd s)

/-- The attention's output. -/
def attn (hd s e : ℕ) : EReal :=
  ∑ t : Fin 2048, a.pr b t (1664 + 64 * (hd / 4) + e)
    * Ideal.div (Ideal.exp (a.score b hd s t - a.top b hd s)) (a.mass b hd s)

/-- What the output weights are applied to. -/
def mixr (s n : ℕ) : EReal :=
  if n < 512 then
    ((∑ k : Fin 128, a.poolr b s (128 * (n / 128) + k) * a.P (n / 128) k (n % 128)) * a.PS n) * swish (a.pr b s (512 + n))
  else a.attn b ((n - 512) / 64) s (n % 64) * swish (a.pr b s (1792 + (n - 512)))

/-- The output product. -/
def Yr (s d : ℕ) : EReal := ∑ n : Fin 1024, a.mixr b s n * a.WO n d

/-- The layer's result. -/
def outr (s d : ℕ) : EReal := a.X b s d + a.Yr b s d * rootMean (a.Yr b s) * a.GO d

end Cert.Layer.Args

end
-- ==== Proof.Pool.lean ====
/-
  A tile's projections and its pool, in the plain layer's words.
-/
module

public import proofs.«01_k».proof.Proof.Spec

@[expose] public section

set_option maxRecDepth 16384

noncomputable section

namespace Cert.Layer

open Idealize.ShloMosaic

/-- Where the kernel's column of the input weights comes from. -/
def col (n : ℕ) : ℕ :=
  if n < 1024 then n else if n < 1536 then 1024 + source (n - 1024) else if n < 1792 then n else 1792 + source (n - 1792)

theorem winOf_col (S : ℕ → ℕ → EReal) (d n : ℕ) : winOf S d n = S d (col n) := by
  unfold winOf col
  split_ifs <;> rfl

/-- A tile is the part of a batch that starts at token `o`. -/
structure Part (a : Args) (b o : ℕ) (t : Tile) : Prop where
  place : o = 1024 * t.T
  two : t.T < 2
  X : ∀ r, t.X r = a.X b (o + r)
  PW : t.PW = poolWOf a.P
  PS : t.PS = a.PS
  SK : t.SK = a.SK
  WO : t.WO = woutOf a.WO
  GO : t.GO = a.GO
  BI : ∀ f r j, t.BI f r j = biasAt (r / 192) f (r % 192) j
  pj : ∀ r n, t.pj r n = a.pr b (o + r) (col n)
  U : ∀ p n, t.U p n = if o + p < 16 then 0 else a.pr b (o + p - 16) (col n)
  K : ∀ i p l, l < 128 → t.buf.K i p l
    = if o + p < 128 then 0 else if (l < 64 ↔ i = 0) then a.pr b (o + p - 128) (1536 + l) else 0
  V : ∀ p l, l < 128 → t.buf.V l p = if o + p < 128 then 0 else a.pr b (o + p - 128) (1664 + l)

variable (a : Args) (b : ℕ)

theorem pj_first (r n : ℕ) : (a.first b).pj r n = a.pr b r (col n) :=
  Finset.sum_congr rfl fun k _ => congrArg (a.hr b r k * ·) (winOf_col a.W k n)

theorem pj_second (r n : ℕ) : (a.second b).pj r n = a.pr b (1024 + r) (col n) :=
  Finset.sum_congr rfl fun k _ => congrArg (a.hr b (1024 + r) k * ·) (winOf_col a.W k n)

theorem col_low {n : ℕ} (h : n < 1024) : col n = n := if_pos h

theorem col_key {l : ℕ} (h : l < 256) : col (1536 + l) = 1536 + l := by
  unfold col
  rw [if_neg (by omega), if_neg (by omega), if_pos (by omega)]

theorem col_query {n : ℕ} (h : n < 512) : col (1024 + n) = 1024 + source n := by
  unfold col
  rw [if_neg (by omega), if_pos (by omega), Nat.add_sub_cancel_left]

theorem col_gate (n : ℕ) : col (1792 + n) = 1792 + source n := by
  unfold col
  rw [if_neg (by omega), if_neg (by omega), if_neg (by omega), Nat.add_sub_cancel_left]

theorem part_first : Part a b 0 (a.first b) where
  place := rfl
  two := Nat.two_pos
  X r := by rw [Nat.zero_add]; rfl
  PW := rfl
  PS := rfl
  SK := rfl
  WO := rfl
  GO := rfl
  BI _ _ _ := rfl
  pj r n := by rw [Nat.zero_add]; exact pj_first a b r n
  U p n := by
    rw [Nat.zero_add, Tile.U, pj_first]
    rfl
  K i p l h := by
    rw [Nat.zero_add]
    show (if p < 128 then 0 else if (l < 64 ↔ i = 0) then (a.first b).pj (p - 128) (1536 + l) else 0) = _
    rw [pj_first, col_key (by omega)]
  V p l h := by
    rw [Nat.zero_add]
    show (if p < 128 then 0 else (a.first b).pj (p - 128) (1664 + l)) = _
    rw [pj_first, show 1664 + l = 1536 + (128 + l) by omega, col_key (by omega)]

theorem part_second : Part a b 1024 (a.second b) where
  place := rfl
  two := Nat.one_lt_two
  X _ := rfl
  PW := rfl
  PS := rfl
  SK := rfl
  WO := rfl
  GO := rfl
  BI _ _ _ := rfl
  pj := pj_second a b
  U p n := by
    rw [if_neg (by omega), Tile.U, pj_second]
    by_cases h : p < 16
    · rw [if_pos h]
      exact ((part_first a b).U (1024 + p) n).trans (by rw [if_neg (by omega), Nat.zero_add])
    · rw [if_neg h, show 1024 + (p - 16) = 1024 + p - 16 by omega]
  K i p l h := by
    rw [if_neg (by omega)]
    show (if p < 128 then (a.first b).buf.K i (1024 + p) l
      else if (l < 64 ↔ i = 0) then (a.second b).pj (p - 128) (1536 + l) else 0) = _
    by_cases hp : p < 128
    · rw [if_pos hp, (part_first a b).K i _ l h, if_neg (by omega), Nat.zero_add]
    · rw [if_neg hp, pj_second, col_key (by omega), show 1024 + (p - 128) = 1024 + p - 128 by omega]
  V p l h := by
    rw [if_neg (by omega)]
    show (if p < 128 then (a.first b).buf.V l (1024 + p) else (a.second b).pj (p - 128) (1664 + l)) = _
    by_cases hp : p < 128
    · rw [if_pos hp, (part_first a b).V _ l h, if_neg (by omega), Nat.zero_add]
    · rw [if_neg hp, pj_second, show 1664 + l = 1536 + (128 + l) by omega, col_key (by omega),
        show 1024 + (p - 128) = 1024 + p - 128 by omega]

/-! ## The pool -/

/-- The sum by doubling is the sum. -/
theorem lastSum_eq (f : ℕ → EReal) : ∀ (g p : ℕ), 2 ^ g ≤ p + 1 → lastSum g f p = ∑ i ∈ Finset.range (2 ^ g), f (p - i)
  | 0, p, _ => by simp [lastSum]
  | g + 1, p, h => by
    have e : 2 ^ (g + 1) = 2 ^ g + 2 ^ g := by ring
    rw [lastSum, twice, lastSum_eq f g p (by omega), lastSum_eq f g (p - 2 ^ g) (by omega), e, Finset.sum_range_add]
    exact congrArg _ (Finset.sum_congr rfl fun i _ => congrArg f (Nat.sub_sub _ _ _))

/-- The sum over a window of tokens, from the last one back. -/
theorem window_sum (f : ℕ → EReal) {s w : ℕ} (hs : s < 2048) :
    (∑ i ∈ Finset.range w, if i ≤ s then f (s - i) else 0)
      = ∑ t : Fin 2048, f t * (if (t : ℕ) ≤ s ∧ s < t + w then 1 else 0) := by
  rw [Fin.sum_univ_eq_sum_range (fun t => f t * (if t ≤ s ∧ s < t + w then 1 else 0)) 2048]
  simp only [mul_ite, mul_one, mul_zero]
  rw [← Finset.sum_filter, ← Finset.sum_filter]
  refine Finset.sum_nbij' (fun i => s - i) (fun t => s - t) ?_ ?_ ?_ ?_ fun _ _ => rfl
  all_goals
    intro i hi
    simp only [Finset.mem_filter, Finset.mem_range] at hi ⊢
    omega

variable {a b}

theorem pooled_eq {o : ℕ} {t : Tile} (H : Part a b o t) {r n : ℕ} (hr : r < 1024) (hn : n < 512) :
    t.pooled r n = a.poolr b (o + r) n := by
  have ho : o + r < 2048 := by have := H.place; have := H.two; omega
  have h2 : 2 ^ (n / 128 + 1) ≤ 2 ^ 4 := Nat.pow_le_pow_right (by omega) (by omega)
  have hu (i : ℕ) (hi : i ∈ Finset.range (2 ^ (n / 128 + 1))) :
      t.U (r + 16 - i) n = if i ≤ o + r then a.pr b (o + r - i) n else 0 := by
    have := Finset.mem_range.mp hi
    rw [H.U, col_low (by omega)]
    by_cases h : i ≤ o + r
    · rw [if_pos h, if_neg (by omega), show o + (r + 16 - i) - 16 = o + r - i by omega]
    · rw [if_neg h, if_pos (by omega)]
  have hc : min ((1024 * t.T + r + 1 : ℕ) : EReal) ((2 ^ (n / 128 + 1) : ℕ) : EReal)
      = ((min (o + r + 1) (2 ^ (n / 128 + 1)) : ℕ) : EReal) := by
    rw [← H.place]
    exact ((Nat.mono_cast (α := EReal)).map_min).symm
  rw [Tile.pooled, Args.poolr, lastSum_eq _ _ _ (by omega), Finset.sum_congr rfl hu, window_sum (fun t => a.pr b t n) ho, hc,
    H.U, col_low (by omega), if_neg (by omega), show o + (r + 16) - 16 = o + r by omega]

/-- Two groups' weights in one matrix act as the two groups' weights. -/
theorem pool_mixed (f : ℕ → EReal) (P : ℕ → ℕ → ℕ → EReal) {n : ℕ} :
    (∑ k : Fin 256, f (256 * (n / 256) + k) * poolWOf P (n / 256) k (n % 256))
      = ∑ k : Fin 128, f (128 * (n / 128) + k) * P (n / 128) k (n % 128) := by
  refine (Fin.sum_univ_add (a := 128) (b := 128) fun k : Fin (128 + 128) =>
    f (256 * (n / 256) + k) * poolWOf P (n / 256) k (n % 256)).trans ?_
  have hl (k : Fin 128) : ((Fin.castAdd 128 k : Fin (128 + 128)) : ℕ) = k := rfl
  have hr (k : Fin 128) : ((Fin.natAdd 128 k : Fin (128 + 128)) : ℕ) = 128 + k := rfl
  have hk (k : Fin 128) : (k : ℕ) / 128 = 0 := by omega
  have hk' (k : Fin 128) : (128 + (k : ℕ)) / 128 = 1 := by omega
  have hm (k : Fin 128) : (k : ℕ) % 128 = k := by omega
  have hm' (k : Fin 128) : (128 + (k : ℕ)) % 128 = k := by omega
  have hn : n % 256 % 128 = n % 128 := by omega
  simp only [hl, hr, poolWOf, hk, hk', hm, hm', hn]
  rcases (by omega : n % 256 / 128 = 0 ∨ n % 256 / 128 = 1) with h | h
  · have e1 : 256 * (n / 256) = 128 * (n / 128) := by omega
    have e2 : 2 * (n / 256) + 0 = n / 128 := by omega
    simp [h, e1, e2, ← Nat.mul_comm]
  · have e1 (k : Fin 128) : 256 * (n / 256) + (128 + (k : ℕ)) = 128 * (n / 128) + k := by omega
    have e2 : 2 * (n / 256) + 1 = n / 128 := by omega
    simp [h, e1, e2]

end Cert.Layer

end
-- ==== Proof.Soft.lean ====
/-
  The softmax of one query: the kernel's over 192 rows, in powers of two and times a reciprocal, and the plain one over all
  the tokens.
-/
module

public import proofs.«01_k».proof.Proof.Block

@[expose] public section

set_option maxRecDepth 16384

noncomputable section

namespace Cert.Layer

open Idealize.ShloMosaic

theorem coe_total {ι : Type*} (s : Finset ι) (f : ι → ℝ) : ((∑ i ∈ s, f i : ℝ) : EReal) = ∑ i ∈ s, (f i : EReal) := by
  classical
  induction s using Finset.induction_on with
  | empty => simp
  | insert i s h ih => rw [Finset.sum_insert h, Finset.sum_insert h, EReal.coe_add, ih]

/-- The largest of some numbers, none of them ⊤, and a real number is a real number. -/
theorem largest_real {n : ℕ} (f : Fin n → EReal) (hf : ∀ k, f k < ⊤) (K : ℝ) :
    ∃ m : ℝ, max (Finset.univ.fold max ⊥ f) (K : EReal) = m := by
  have h1 : max (Finset.univ.fold max ⊥ f) (K : EReal) ≠ ⊤ :=
    (max_lt (Finset.fold_max_lt _ |>.mpr ⟨bot_lt_top, fun k _ => hf k⟩) (EReal.coe_lt_top K)).ne
  have h2 : max (Finset.univ.fold max ⊥ f) (K : EReal) ≠ ⊥ :=
    ((EReal.bot_lt_coe K).trans_le (le_max_right _ _)).ne'
  exact ⟨_, (EReal.coe_toReal h1 h2).symm⟩

/-- The row of a token within 192 rows that start 128 before the query's block: its token is in the query's window. -/
def Valid (o c k : ℕ) : Prop := c < k ∧ k ≤ c + 128 ∧ 128 ≤ o + k

instance (o c k : ℕ) : Decidable (Valid o c k) := inferInstanceAs (Decidable (_ ∧ _ ∧ _))

/-- Whether a token is in a query's window. -/
def Near (s t : ℕ) : Prop := t ≤ s ∧ s < t + 128

instance (s t : ℕ) : Decidable (Near s t) := inferInstanceAs (Decidable (_ ∧ _))

/-- The rows of a query's window are its tokens. -/
theorem window_rows (f : ℕ → EReal) {o c : ℕ} (hc : c < 64) (hs : o + c < 2048) :
    (∑ k : Fin 192, if Valid o c k then f (o + k - 128) else 0) = ∑ t : Fin 2048, if Near (o + c) t then f t else 0 := by
  rw [Fin.sum_univ_eq_sum_range (fun t => if Near (o + c) t then f t else 0) 2048,
    Fin.sum_univ_eq_sum_range (fun k => if Valid o c k then f (o + k - 128) else 0) 192,
    ← Finset.sum_filter, ← Finset.sum_filter]
  refine Finset.sum_nbij' (fun k => o + k - 128) (fun t => t + 128 - o) ?_ ?_ ?_ ?_ fun _ _ => rfl
  all_goals
    intro i hi
    simp only [Finset.mem_filter, Finset.mem_range] at hi ⊢
    try unfold Valid at *
    try unfold Near at *
    omega

theorem exp2_scaled (x m : ℝ) : Ideal.exp2 (((x * (Real.log 2)⁻¹ : ℝ) : EReal) - ((m * (Real.log 2)⁻¹ : ℝ) : EReal))
    = ((Real.exp (x - m) : ℝ) : EReal) := by
  rw [← EReal.coe_sub, Ideal.exp2_coe]
  refine congrArg _ ?_
  show (2 : ℝ) ^ (x * (Real.log 2)⁻¹ - m * (Real.log 2)⁻¹) = _
  have h : Real.log 2 ≠ 0 := (Real.log_pos one_lt_two).ne'
  rw [Real.rpow_def_of_pos two_pos]
  congr 1
  field_simp

theorem div_real (x : ℝ) {d : ℝ} (hd : 0 < d) : Ideal.div (x : EReal) (d : EReal) = ((x * d⁻¹ : ℝ) : EReal) := by
  unfold Ideal.div
  rw [if_neg (by exact_mod_cast hd.ne'), ← EReal.coe_inv, ← EReal.coe_mul]

section

variable (S Vt : ℕ → ℝ) (K : ℝ) {o c : ℕ} (hc : c < 64) (hs : o + c < 2048) {σ v score : ℕ → EReal}
  (hσ : ∀ k, k < 192 → σ k = if Valid o c k then ((S (o + k - 128) * (Real.log 2)⁻¹ : ℝ) : EReal) else ⊥)
  (hv : ∀ k, k < 192 → Valid o c k → v k = (Vt (o + k - 128) : EReal))
  (hsc : ∀ t, t < 2048 → score t = if Near (o + c) t then (S t : EReal) else ⊥)

include hc hs hσ hsc

/-- The two largest scores. -/
theorem tops : ∃ m : ℝ, topScore σ ((K * (Real.log 2)⁻¹ : ℝ) : EReal) = ((m * (Real.log 2)⁻¹ : ℝ) : EReal)
    ∧ max (Finset.univ.fold max ⊥ fun t : Fin 2048 => score t) (K : EReal) = m := by
  have hL : 0 < (Real.log 2)⁻¹ := inv_pos.mpr (Real.log_pos one_lt_two)
  obtain ⟨m, hm⟩ := largest_real (fun t : Fin 2048 => score t) (fun t => by
    rw [hsc t t.isLt]
    split_ifs
    · exact EReal.coe_lt_top _
    · exact bot_lt_top) K
  obtain ⟨q, hq⟩ := largest_real (fun k : Fin 192 => σ k) (fun k => by
    rw [hσ k k.isLt]
    split_ifs
    · exact EReal.coe_lt_top _
    · exact bot_lt_top) (K * (Real.log 2)⁻¹)
  refine ⟨m, hq.trans (congrArg _ (le_antisymm ?_ ?_)), hm⟩
  · have h1 : (K : EReal) ≤ m := hm ▸ le_max_right _ _
    have h2 : ∀ t : Fin 2048, score t ≤ m := fun t =>
      hm ▸ le_max_of_le_left ((Finset.le_fold_max _).mpr (.inr ⟨t, Finset.mem_univ _, le_rfl⟩))
    rw [← EReal.coe_le_coe_iff, ← hq]
    refine max_le ((Finset.fold_max_le _).mpr ⟨bot_le, fun k _ => ?_⟩) ?_
    · rw [hσ k k.isLt]
      split_ifs with h
      · have h3 := h2 ⟨o + k - 128, by unfold Valid at h; omega⟩
        rw [hsc _ (by unfold Valid at h; omega), if_pos (by unfold Valid at h; show _ ∧ _; dsimp only; omega)] at h3
        exact EReal.coe_le_coe_iff.mpr (mul_le_mul_of_nonneg_right (EReal.coe_le_coe_iff.mp h3) hL.le)
      · exact bot_le
    · exact EReal.coe_le_coe_iff.mpr (mul_le_mul_of_nonneg_right (EReal.coe_le_coe_iff.mp h1) hL.le)
  · have h1 : ((K * (Real.log 2)⁻¹ : ℝ) : EReal) ≤ q := hq ▸ le_max_right _ _
    have h2 : ∀ k : Fin 192, σ k ≤ q := fun k =>
      hq ▸ le_max_of_le_left ((Finset.le_fold_max _).mpr (.inr ⟨k, Finset.mem_univ _, le_rfl⟩))
    have h3 : m ≤ q / (Real.log 2)⁻¹ := by
      rw [← EReal.coe_le_coe_iff, ← hm]
      refine max_le ((Finset.fold_max_le _).mpr ⟨bot_le, fun t _ => ?_⟩) ?_
      · rw [hsc t t.isLt]
        split_ifs with h
        · have h3 := h2 ⟨t + 128 - o, by unfold Near at h; omega⟩
          rw [hσ _ (by unfold Near at h; omega), if_pos (by unfold Near at h; show _ ∧ _ ∧ _; dsimp only; omega),
            show o + ((t : ℕ) + 128 - o) - 128 = t by unfold Near at h; omega] at h3
          exact EReal.coe_le_coe_iff.mpr ((le_div_iff₀ hL).mpr (EReal.coe_le_coe_iff.mp h3))
        · exact bot_le
      · exact EReal.coe_le_coe_iff.mpr ((le_div_iff₀ hL).mpr (EReal.coe_le_coe_iff.mp h1))
    exact (le_div_iff₀ hL).mp h3

include hv

/-- The two softmaxes applied to the values. -/
theorem soft : sinkMean σ ((K * (Real.log 2)⁻¹ : ℝ) : EReal) v
    = ∑ t : Fin 2048, (Vt t : EReal) * Ideal.div
      (Ideal.exp (score t - max (Finset.univ.fold max ⊥ fun t : Fin 2048 => score t) (K : EReal)))
      ((∑ t : Fin 2048, Ideal.exp (score t - max (Finset.univ.fold max ⊥ fun t : Fin 2048 => score t) (K : EReal)))
        + Ideal.exp ((K : EReal) - max (Finset.univ.fold max ⊥ fun t : Fin 2048 => score t) (K : EReal))) := by
  obtain ⟨m, hk, hm⟩ := tops S K hc hs hσ hsc
  rw [sinkMean, hk, hm]
  let e : ℕ → ℝ := fun t => if Near (o + c) t then Real.exp (S t - m) else 0
  have he (t : Fin 2048) : Ideal.exp (score t - (m : EReal)) = (e t : EReal) := by
    rw [hsc t t.isLt]
    by_cases h : Near (o + c) t
    · rw [if_pos h, ← EReal.coe_sub, Ideal.exp_coe]
      simp only [e, if_pos h]
    · rw [if_neg h, EReal.bot_sub, Ideal.exp_bot]
      simp only [e, if_neg h, EReal.coe_zero]
  have hx (k : Fin 192) : Ideal.exp2 (σ k - ((m * (Real.log 2)⁻¹ : ℝ) : EReal))
      = if Valid o c k then ((Real.exp (S (o + k - 128) - m) : ℝ) : EReal) else 0 := by
    rw [hσ k k.isLt]
    by_cases h : Valid o c k
    · rw [if_pos h, if_pos h, exp2_scaled]
    · rw [if_neg h, if_neg h, EReal.bot_sub, Ideal.exp2_bot]
  have hden : (∑ k : Fin 192, Ideal.exp2 (σ k - ((m * (Real.log 2)⁻¹ : ℝ) : EReal))) = ((∑ t : Fin 2048, e t : ℝ) : EReal) := by
    rw [coe_total, Finset.sum_congr rfl fun k _ => hx k, window_rows (fun t => ((Real.exp (S t - m) : ℝ) : EReal)) hc hs]
    refine Finset.sum_congr rfl fun t _ => ?_
    by_cases h : Near (o + c) t
    · simp only [e, if_pos h]
    · simp only [e, if_neg h, EReal.coe_zero]
  have hnum : (∑ k : Fin 192, v k * Ideal.exp2 (σ k - ((m * (Real.log 2)⁻¹ : ℝ) : EReal)))
      = ((∑ t : Fin 2048, Vt t * e t : ℝ) : EReal) := by
    have hy (k : Fin 192) : v k * Ideal.exp2 (σ k - ((m * (Real.log 2)⁻¹ : ℝ) : EReal))
        = if Valid o c k then ((Vt (o + k - 128) * Real.exp (S (o + k - 128) - m) : ℝ) : EReal) else 0 := by
      rw [hx]
      by_cases h : Valid o c k
      · rw [if_pos h, if_pos h, hv k k.isLt h, EReal.coe_mul]
      · rw [if_neg h, if_neg h, mul_zero]
    rw [coe_total, Finset.sum_congr rfl fun k _ => hy k,
      window_rows (fun t => ((Vt t * Real.exp (S t - m) : ℝ) : EReal)) hc hs]
    refine Finset.sum_congr rfl fun t _ => ?_
    by_cases h : Near (o + c) t
    · simp only [e, if_pos h]
    · simp only [e, if_neg h, mul_zero, EReal.coe_zero]
  have hD : 0 < (∑ t : Fin 2048, e t) + Real.exp (K - m) :=
    add_pos_of_nonneg_of_pos (Finset.sum_nonneg fun t _ => by
      by_cases h : Near (o + c) t
      · simp only [e, if_pos h]
        exact (Real.exp_pos _).le
      · simp only [e, if_neg h, le_refl]) (Real.exp_pos _)
  simp only [he]
  rw [hnum, hden, exp2_scaled, ← coe_total, ← EReal.coe_sub, Ideal.exp_coe, ← EReal.coe_add, ← EReal.coe_one, div_real 1 hD,
    ← EReal.coe_mul]
  simp only [div_real _ hD, ← EReal.coe_mul]
  rw [← coe_total, one_mul, Finset.sum_mul]
  exact congrArg _ (Finset.sum_congr rfl fun t _ => mul_assoc _ _ _)

end

end Cert.Layer

end
-- ==== Proof.Attn.lean ====
/-
  A tile's attention is the plain attention, where the arrays that the scores are made of are finite.
-/
module

public import proofs.«01_k».proof.Proof.Pool
public import proofs.«01_k».proof.Proof.Soft

@[expose] public section

set_option maxRecDepth 16384

noncomputable section

namespace Cert.Layer

open Idealize.ShloMosaic

/-- The arguments that the scores and the sinks are made of are real numbers. -/
structure Args.Finite (a : Args) : Prop where
  W : ∀ d n, ∃ y : ℝ, a.W d n = y
  SK : ∀ h, ∃ y : ℝ, a.SK h = y
  GP : ∀ d, ∃ y : ℝ, a.GP d = y

theorem width_word : Ideal.ofBits FTy.f32 1149239296#32 = ((1024 : ℝ) : EReal) := by
  simp [Ideal.ofBits, Ideal.ieee, -EReal.coe_mul] <;> norm_num

theorem eps_word : Ideal.ofBits FTy.f32 897988541#32 = ((8796093 * (2 ^ 43)⁻¹ : ℝ) : EReal) := by
  simp [Ideal.ofBits, Ideal.ieee, -EReal.coe_mul] <;> norm_num

theorem rootMean_real {x : ℕ → EReal} (h : ∀ k : Fin 1024, ∃ y : ℝ, x k = y) : ∃ y : ℝ, rootMean x = y := by
  choose y hy using h
  have hp : 0 < (∑ k : Fin 1024, y k * y k) * (1024 : ℝ)⁻¹ + 8796093 * (2 ^ 43)⁻¹ :=
    add_pos_of_nonneg_of_pos (mul_nonneg (Finset.sum_nonneg fun k _ => mul_self_nonneg _) (by norm_num)) (by norm_num)
  refine ⟨(Real.sqrt ((∑ k : Fin 1024, y k * y k) * (1024 : ℝ)⁻¹ + 8796093 * (2 ^ 43)⁻¹))⁻¹, ?_⟩
  rw [rootMean, width_word, eps_word]
  simp only [hy, ← EReal.coe_mul]
  rw [← coe_total, div_real _ (by norm_num : (0 : ℝ) < 1024), ← EReal.coe_add, Ideal.rsqrt_coe, if_neg hp.not_gt, if_neg hp.ne']

theorem square_nonneg (z : EReal) : 0 ≤ z * z := by
  induction z using EReal.rec with
  | bot => simp
  | coe y => exact_mod_cast mul_self_nonneg y
  | top => simp

/-- The reciprocal root is zero where one of the numbers is an infinity. -/
theorem rootMean_zero {x : ℕ → EReal} {k : Fin 1024} (h : x k * x k = ⊤) : rootMean x = 0 := by
  have hs : (∑ k : Fin 1024, x k * x k) = ⊤ :=
    top_le_iff.mp (h ▸ Finset.single_le_sum (f := fun k : Fin 1024 => x k * x k) (fun i _ => square_nonneg (x i)) (Finset.mem_univ k))
  rw [rootMean, width_word, eps_word, hs, Ideal.div_coe (by norm_num), EReal.top_mul_coe_of_pos (by norm_num),
    EReal.top_add_coe, Ideal.rsqrt_top]

/-- A row over its root mean square is real, whatever the row. -/
theorem unit_real (x : ℕ → EReal) (d : Fin 1024) : ∃ y : ℝ, x d * rootMean x = y := by
  by_cases h : ∀ k : Fin 1024, ∃ y : ℝ, x k = y
  · obtain ⟨m, hm⟩ := rootMean_real h
    obtain ⟨y, hy⟩ := h d
    exact ⟨y * m, by rw [hm, hy, EReal.coe_mul]⟩
  · obtain ⟨k, hk⟩ := not_forall.mp h
    refine ⟨0, ?_⟩
    rw [rootMean_zero (k := k), mul_zero, EReal.coe_zero]
    generalize x k = z at hk
    induction z using EReal.rec with
    | bot => simp
    | coe y => exact absurd ⟨y, rfl⟩ hk
    | top => simp

theorem pr_real {a : Args} (F : a.Finite) (b : ℕ) : ∃ R : ℕ → ℕ → ℝ, ∀ s n, a.pr b s n = R s n := by
  choose W hW using F.W
  have hh : ∀ (s : ℕ) (d : Fin 1024), ∃ y : ℝ, a.hr b s d = y := fun s d => by
    obtain ⟨u, hu⟩ := unit_real (a.X b s) d
    obtain ⟨g, hg⟩ := F.GP d
    exact ⟨u * g, by rw [Args.hr, hu, hg, EReal.coe_mul]⟩
  choose h hh using hh
  refine ⟨fun s n => ∑ k : Fin 1024, h s k * W k n, fun s n => ?_⟩
  rw [coe_total, Args.pr]
  simp only [hh, hW, EReal.coe_mul]

/-- A product over 128 lanes of which one half is zero. -/
theorem lane_sum {kv : ℕ} (hk : kv < 2) (f g : ℕ → EReal) :
    (∑ l : Fin 128, (if ((l : ℕ) < 64 ↔ kv = 0) then f l else 0) * g l) = ∑ l : Fin 64, f (64 * kv + l) * g (64 * kv + l) := by
  refine (Fin.sum_univ_add (a := 64) (b := 64) fun l : Fin (64 + 64) =>
    (if ((l : ℕ) < 64 ↔ kv = 0) then f l else 0) * g l).trans ?_
  have hl (l : Fin 64) : ((Fin.castAdd 64 l : Fin (64 + 64)) : ℕ) = l := rfl
  have hr (l : Fin 64) : ((Fin.natAdd 64 l : Fin (64 + 64)) : ℕ) = 64 + l := rfl
  have h1 (l : Fin 64) : ((l : ℕ) < 64) = True := eq_true l.isLt
  have h2 (l : Fin 64) : (64 + (l : ℕ) < 64) = False := eq_false (by omega)
  simp only [hl, hr, h1, h2]
  rcases (by omega : kv = 0 ∨ kv = 1) with rfl | rfl <;> simp

theorem source_at {kv g l : ℕ} (hk : kv < 2) (hl : l < 64) : source (128 * g + (64 * kv + l)) = 256 * kv + 64 * g + l := by
  unfold source
  omega

variable {a : Args} {b o : ℕ} {t : Tile}

/-- The attention of a query. -/
theorem att_eq (H : Part a b o t) (F : a.Finite) {r j : ℕ} (hr : r < 1024) (hj : j < 512) :
    t.buf.att (t.BI (t.variant (r / 64))) (64 * (r / 64)) (j % 128 / 64) (j / 128) (r % 64) (j % 64)
      = a.attn b (source j / 64) (o + r) (j % 64) := by
  have hso : o + r < 2048 := by have := H.place; have := H.two; omega
  obtain ⟨R, hR⟩ := pr_real F b
  obtain ⟨K, hK⟩ := F.SK (source j / 64)
  obtain ⟨kv, hkv⟩ : ∃ kv, kv = j % 128 / 64 := ⟨_, rfl⟩
  obtain ⟨g, hg⟩ : ∃ g, g = j / 128 := ⟨_, rfl⟩
  obtain ⟨e, he⟩ : ∃ e, e = j % 64 := ⟨_, rfl⟩
  obtain ⟨c, hc⟩ : ∃ c, c = r % 64 := ⟨_, rfl⟩
  obtain ⟨r0, hr0⟩ : ∃ r0, r0 = r / 64 := ⟨_, rfl⟩
  obtain ⟨hd, hhd⟩ : ∃ hd, hd = source j / 64 := ⟨_, rfl⟩
  have hhd' : hd = 4 * kv + g := by unfold source at hhd; omega
  rw [← hhd] at hK ⊢
  rw [← hkv, ← hg, ← he, ← hc, ← hr0]
  have hs : o + r = o + 64 * r0 + c := by omega
  have hc64 : c < 64 := by omega
  let S : ℕ → ℝ := fun u => (∑ l : Fin 64, R u (1536 + 64 * (hd / 4) + l) * R (o + r) (1024 + 64 * hd + l)) * (8 : ℝ)⁻¹
    + (0 - slope hd) * ((o + r - u : ℕ) : ℝ)
  let Vt : ℕ → ℝ := fun u => R u (1664 + 64 * (hd / 4) + e)
  have hsink : t.buf.SK kv (64 * g + c) = ((K * (Real.log 2)⁻¹ : ℝ) : EReal) := by
    rw [EReal.coe_mul, ← hK, hhd']
    show t.SK (4 * kv + (64 * g + c) / 64) * _ = _
    rw [H.SK, show (64 * g + c) / 64 = g by omega]
  have hsc : ∀ u, u < 2048 → a.score b hd (o + r) u = if Near (o + 64 * r0 + c) u then (S u : EReal) else ⊥ := fun u _ => by
    rw [← hs]
    by_cases h : Near (o + r) u
    · rw [if_pos h, Args.score, if_pos (c := u ≤ o + r ∧ o + r < u + 128) h]
      simp only [hR, S, EReal.coe_add, EReal.coe_mul, coe_total, EReal.coe_sub, EReal.coe_zero, EReal.coe_natCast]
    · rw [if_neg h, Args.score, if_neg (c := u ≤ o + r ∧ o + r < u + 128) h]
  have hv : ∀ k, k < 192 → Valid (o + 64 * r0) c k → t.buf.V (64 * kv + e) (64 * r0 + k)
      = (Vt (o + 64 * r0 + k - 128) : EReal) := fun k _ h => by
    unfold Valid at h
    rw [H.V _ _ (by omega), if_neg (by omega), hR]
    simp only [Vt]
    rw [show o + (64 * r0 + k) - 128 = o + 64 * r0 + k - 128 by omega,
      show 1664 + (64 * kv + e) = 1664 + 64 * (hd / 4) + e by omega]
  have hσ : ∀ k, k < 192 → (∑ l : Fin 128, t.buf.K kv (64 * r0 + k) l * t.buf.Q (64 * r0 + c) (128 * g + l))
        + t.BI (t.variant r0) (192 * kv + k) (64 * g + c)
      = if Valid (o + 64 * r0) c k then ((S (o + 64 * r0 + k - 128) * (Real.log 2)⁻¹ : ℝ) : EReal) else ⊥ := fun k hk => by
    have hb : ((k ≤ (64 * g + c) % 64 + 128 ∧ (64 * g + c) % 64 < k ∧ 64 * t.variant r0 ≤ k)) ↔ Valid (o + 64 * r0) c k := by
      have h1 := H.place
      have h2 := H.two
      unfold Valid Tile.variant
      split_ifs with h <;> omega
    rw [H.BI, show (192 * kv + k) / 192 = kv by omega, show (192 * kv + k) % 192 = k by omega, biasAt]
    by_cases h : Valid (o + 64 * r0) c k
    · rw [if_pos h, if_pos (hb.mpr h)]
      unfold Valid at h
      have hsum : (∑ l : Fin 128, t.buf.K kv (64 * r0 + k) l * t.buf.Q (64 * r0 + c) (128 * g + l))
          = (((∑ l : Fin 64, R (o + 64 * r0 + k - 128) (1536 + 64 * (hd / 4) + l) * R (o + r) (1024 + 64 * hd + l))
            * (8 : ℝ)⁻¹ * (Real.log 2)⁻¹ : ℝ) : EReal) := by
        have h1 (l : Fin 128) : t.buf.K kv (64 * r0 + k) l * t.buf.Q (64 * r0 + c) (128 * g + l)
            = (if ((l : ℕ) < 64 ↔ kv = 0) then a.pr b (o + 64 * r0 + k - 128) (1536 + l) else 0)
              * (a.pr b (o + r) (col (1024 + (128 * g + l))) * (((8 : ℝ)⁻¹ * (Real.log 2)⁻¹ : ℝ) : EReal)) := by
          rw [H.K _ _ _ l.isLt, if_neg (by omega), show o + (64 * r0 + k) - 128 = o + 64 * r0 + k - 128 by omega]
          refine congrArg₂ (· * ·) rfl ?_
          show t.pj (64 * r0 + c) (1024 + (128 * g + l)) * _ = _
          rw [H.pj, show o + (64 * r0 + c) = o + r by omega]
        rw [Finset.sum_congr rfl fun l _ => h1 l, lane_sum (by omega) (fun l => a.pr b (o + 64 * r0 + k - 128) (1536 + l))
          (fun l => a.pr b (o + r) (col (1024 + (128 * g + l))) * (((8 : ℝ)⁻¹ * (Real.log 2)⁻¹ : ℝ) : EReal)),
          Finset.sum_mul, Finset.sum_mul, coe_total]
        refine Finset.sum_congr rfl fun l _ => ?_
        rw [col_query (by omega), source_at (by omega) l.isLt, show 1024 + (256 * kv + 64 * g + (l : ℕ)) = 1024 + 64 * hd + l by omega,
          show 1536 + (64 * kv + (l : ℕ)) = 1536 + 64 * (hd / 4) + l by omega, hR, hR, ← EReal.coe_mul, ← EReal.coe_mul]
        exact congrArg _ (by ring)
      rw [hsum, show 4 * kv + (64 * g + c) / 64 = hd by omega,
        show (64 * g + c) % 64 + 128 - k = o + r - (o + 64 * r0 + k - 128) by omega, ← EReal.coe_natCast, ← EReal.coe_zero,
        ← EReal.coe_sub, ← EReal.coe_mul, ← EReal.coe_mul, ← EReal.coe_add]
      exact congrArg _ (by simp only [S]; ring)
    · rw [if_neg h, if_neg fun h' => h (hb.mp h'), EReal.add_bot]
  have hmain := soft S Vt K hc64 (hs ▸ hso) hσ hv hsc
  rw [Buffers.att, hsink]
  refine hmain.trans ?_
  rw [Args.attn, Args.mass, Args.top, hK]
  simp only [hR]
  rfl

end Cert.Layer

end
-- ==== Proof.Layer.lean ====
/-
  A tile's result is the layer's, where the arrays that the scores are made of are finite.
-/
module

public import proofs.«01_k».proof.Proof.Attn

@[expose] public section

set_option maxRecDepth 16384

noncomputable section

namespace Cert.Layer

open Idealize.ShloMosaic

variable {a : Args} {b o : ℕ} {t : Tile}

theorem mix_pool (H : Part a b o t) {r n : ℕ} (hr : r < 1024) (hn : n < 512) : t.mix r n = a.mixr b (o + r) n := by
  rw [Tile.mix, if_pos hn, Args.mixr, if_pos hn, H.PW, H.PS, H.pj, col_low (by omega), ← pool_mixed (a.poolr b (o + r)) a.P]
  refine congrArg (· * _) (congrArg (· * _) (Finset.sum_congr rfl fun k _ => ?_))
  rw [pooled_eq H hr (by omega)]

theorem mix_attention (H : Part a b o t) (F : a.Finite) {r j : ℕ} (hr : r < 1024) (hj : j < 512) :
    t.mix r (512 + j) = a.mixr b (o + r) (512 + source j) := by
  have e1 : (512 + j) % 64 = j % 64 := by omega
  have e2 : (512 + source j) % 64 = j % 64 := by unfold source; omega
  rw [Tile.mix, if_neg (by omega), Args.mixr, if_neg (by omega), Nat.add_sub_cancel_left, Nat.add_sub_cancel_left, e1, e2,
    att_eq H F hr hj]
  refine congrArg (_ * ·) ?_
  show swish (t.pj r (1792 + j)) = _
  rw [H.pj, col_gate]

/-- The place a column is taken from, read digit by digit. -/
theorem source_digits {n : ℕ} (h : n < 512) :
    source n / 256 = n / 64 % 2 ∧ source n % 256 / 64 = n / 128 ∧ source n % 64 = n % 64 := by
  unfold source
  omega

/-- The kernel's order of the attention's columns is one of them all. -/
theorem source_bijective : Function.Bijective fun j : Fin 512 => (⟨source j, source_lt j.isLt⟩ : Fin 512) := by
  rw [← Finite.injective_iff_bijective]
  intro i j h
  have h' : source i = source j := congrArg Fin.val h
  have hi := source_digits i.isLt
  have hj := source_digits j.isLt
  rw [h'] at hi
  have e0 : (i : ℕ) / 64 % 2 = (j : ℕ) / 64 % 2 := hi.1.symm.trans hj.1
  have e1 : (i : ℕ) / 128 = (j : ℕ) / 128 := hi.2.1.symm.trans hj.2.1
  have e2 : (i : ℕ) % 64 = (j : ℕ) % 64 := hi.2.2.symm.trans hj.2.2
  clear h h' hi hj
  exact Fin.ext (by omega)

theorem Y_eq (H : Part a b o t) (F : a.Finite) {r : ℕ} (hr : r < 1024) (d : ℕ) : t.Y r d = a.Yr b (o + r) d := by
  rw [Tile.Y, Args.Yr]
  refine (Fin.sum_univ_add (a := 512) (b := 512) fun n : Fin (512 + 512) => t.mix r n * t.WO n d).trans
    (Eq.trans (congrArg₂ (· + ·) (Finset.sum_congr rfl fun n _ => ?_) ?_)
      (Fin.sum_univ_add (a := 512) (b := 512) fun n : Fin (512 + 512) => a.mixr b (o + r) n * a.WO n d).symm)
  · rw [show ((Fin.castAdd 512 n : Fin (512 + 512)) : ℕ) = n from rfl, mix_pool H hr n.isLt, H.WO, woutOf, if_pos n.isLt]
  · refine (Finset.sum_congr rfl fun j _ => ?_).trans (source_bijective.sum_comp
      fun j : Fin 512 => a.mixr b (o + r) (512 + (j : ℕ)) * a.WO (512 + (j : ℕ)) d)
    rw [show ((Fin.natAdd 512 j : Fin (512 + 512)) : ℕ) = 512 + j from rfl, mix_attention H F hr j.isLt, H.WO, woutOf,
      if_neg (by omega), Nat.add_sub_cancel_left]

theorem out_eq (H : Part a b o t) (F : a.Finite) {r : ℕ} (hr : r < 1024) (d : ℕ) : t.out r d = a.outr b (o + r) d := by
  have e : t.Y r = a.Yr b (o + r) := funext fun d => Y_eq H F hr d
  rw [Tile.out, Args.outr, H.X, H.GO, e]

/-- The two tiles of a batch are the layer. -/
theorem tile_out (F : a.Finite) {s : ℕ} (hs : s < 2048) (d : ℕ) : (a.tile b (s / 1024)).out (s % 1024) d = a.outr b s d := by
  rcases (by omega : s / 1024 = 0 ∨ s / 1024 = 1) with h | h
  · rw [h, Args.tile, if_pos rfl, out_eq (part_first a b) F (by omega), show 0 + s % 1024 = s by omega]
  · rw [h, Args.tile, if_neg one_ne_zero, out_eq (part_second a b) F (by omega), show 1024 + s % 1024 = s by omega]

end Cert.Layer

end
-- ==== Proof.Ref.lean ====
/-
  The reference's result, read at an index: the layer written plainly.
-/
module

public import proofs.«01_k».proof.Proof.Spec
public import proofs.«01_k».proof.Proof.Gen.ReferenceIdeal.Run
public import Idealize.ShloMosaic.Lib.Pointwise
public import Idealize.ShloMosaic.Lib.ValueIdx
public import Idealize.ShloMosaic.Lib.WordCmp

@[expose] public section

set_option maxRecDepth 16384

noncomputable section

namespace Cert.Layer

open Idealize.ShloMosaic Idealize.ShloMosaic.TcCoe
open Cert.ReferenceIdeal Cert.ReferenceIdeal.Gen Cert.ReferenceIdeal.Value

theorem ext2_at {B : ℕ} (f : (⟨2, ![2, B]⟩ : Shape).Idx → EReal) (k : Fin B) : ext2 f 1 k = f (ix2 1 k) :=
  (ext2_of f (by decide) k.isLt).symm

theorem ext3_at {B C : ℕ} (f : (⟨3, ![2, B, C]⟩ : Shape).Idx → EReal) (k : Fin B) (l : Fin C) : ext3 f 1 k l = f (ix3 1 k l) :=
  (ext3_of f (by decide) k.isLt l.isLt).symm

theorem ext3_val {A B C : ℕ} (f : (⟨3, ![A, B, C]⟩ : Shape).Idx → EReal) (i : Fin A) (k : Fin B) (l : Fin C) :
    ext3 f i k l = f (ix3 i k l) :=
  (ext3_of f i.isLt k.isLt l.isLt).symm

variable (V : Valuation τ sig (Elt Ideal))

/-- The reference's arguments by coordinates: the second layer's part of each. -/
def refArgs : Args where
  X := ext3 (V (Proc.devRef .tc main_arg0))
  W := ext3 (V (Proc.devRef .tc main_arg1)) 1
  P := ext4 (V (Proc.devRef .tc main_arg2)) 1
  PS := ext2 (V (Proc.devRef .tc main_arg3)) 1
  SK := ext2 (V (Proc.devRef .tc main_arg4)) 1
  WO := ext3 (V (Proc.devRef .tc main_arg5)) 1
  GP := ext2 (V (Proc.devRef .tc main_arg6)) 1
  GO := ext2 (V (Proc.devRef .tc main_arg7)) 1

/-! ## Words -/

theorem sub_toInt {s t : ℕ} (hs : s < 2048) (ht : t < 2048) :
    (IntOp.subi (BitVec.ofNat 32 s) (BitVec.ofNat 32 t)).toInt = (s : ℤ) - t := by
  unfold IntOp.subi
  rw [BitVec.toInt_sub, WordCmp.toInt_ofNat_of_lt (by omega), WordCmp.toInt_ofNat_of_lt (by omega)]
  exact Int.bmod_eq_of_le (by omega) (by omega)

theorem shl_word : ∀ g : Fin 8, IntOp.shli ArithUnit.host 2#32 (BitVec.ofNat 32 g) = BitVec.ofNat 32 (2 ^ ((g : ℕ) + 1)) := by
  decide +kernel

/-- Whether a token lies in another's window. -/
theorem window_select {s t w : ℕ} (hs : s < 2048) (ht : t < 2048) (hw : w < 2 ^ 31) (x y : EReal) :
    Scalar.select (IntOp.andi (IntOp.cmpi .sge (IntOp.subi (BitVec.ofNat 32 s) (BitVec.ofNat 32 t)) 0#32)
      (IntOp.cmpi .slt (IntOp.subi (BitVec.ofNat 32 s) (BitVec.ofNat 32 t)) (BitVec.ofNat 32 w))) x y
      = if t ≤ s ∧ s < t + w then x else y := by
  rw [WordCmp.cmpi_sge_eq, WordCmp.cmpi_slt_eq, WordCmp.andi_ofBool, sub_toInt hs ht,
    show (0#32).toInt = 0 from rfl, WordCmp.toInt_ofNat_of_lt hw]
  by_cases h : t ≤ s ∧ s < t + w
  · rw [if_pos h, decide_eq_true (by omega), decide_eq_true (by omega)]
    rfl
  · rw [if_neg h]
    by_cases h1 : t ≤ s
    · rw [decide_eq_true (p := (0 : ℤ) ≤ (s : ℤ) - t) (by omega), decide_eq_false (by omega)]
      rfl
    · rw [decide_eq_false (p := (0 : ℤ) ≤ (s : ℤ) - t) (by omega)]
      rfl

theorem sub_float {s t : ℕ} (hs : s < 2048) (ht : t < 2048) (h : t ≤ s) :
    FloatOps.sitofp (F := Ideal) FTy.f32 (IntOp.subi (BitVec.ofNat 32 s) (BitVec.ofNat 32 t)) = ((s - t : ℕ) : EReal) := by
  show (((IntOp.subi (BitVec.ofNat 32 s) (BitVec.ofNat 32 t)).toInt : ℝ) : EReal) = _
  rw [sub_toInt hs ht, show (s : ℤ) - t = ((s - t : ℕ) : ℤ) by omega]
  simp

theorem count_float {s g : ℕ} (hs : s < 2048) (hg : g < 8) :
    FloatOps.sitofp (F := Ideal) FTy.f32 (IntOp.minsi (IntOp.addi (BitVec.ofNat 32 s) 1#32)
      (IntOp.shli ArithUnit.host 2#32 (BitVec.ofNat 32 g))) = ((min (s + 1) (2 ^ (g + 1)) : ℕ) : EReal) := by
  have h2 : 2 ^ (g + 1) ≤ 2 ^ 8 := Nat.pow_le_pow_right (by omega) (by omega)
  rw [show IntOp.shli ArithUnit.host 2#32 (BitVec.ofNat 32 g) = BitVec.ofNat 32 (2 ^ (g + 1)) from shl_word ⟨g, hg⟩,
    ← sitofp_ofNat (n := min (s + 1) (2 ^ (g + 1))) (by omega)]
  refine congrArg _ ?_
  have e : IntOp.addi (BitVec.ofNat 32 s) 1#32 = BitVec.ofNat 32 (s + 1) := by
    unfold IntOp.addi
    rw [BitVec.ofNat_add]
  rw [e]
  unfold IntOp.minsi
  rw [BitVec.slt_eq_decide, WordCmp.toInt_ofNat_of_lt (by omega), WordCmp.toInt_ofNat_of_lt (by omega)]
  by_cases h : s + 1 < 2 ^ (g + 1)
  · rw [decide_eq_true (by exact_mod_cast h), if_pos rfl, min_eq_left h.le]
  · rw [decide_eq_false (by exact_mod_cast h), if_neg (by simp), min_eq_right (by omega)]

theorem slope_float (g : Fin 8) :
    Ideal.div 1 (FloatOps.sitofp (F := Ideal) FTy.f32 (IntOp.shli ArithUnit.host 2#32 (BitVec.ofNat 32 g))) = (slope g : EReal) := by
  have h2 : 2 ^ ((g : ℕ) + 1) ≤ 2 ^ 8 := Nat.pow_le_pow_right (by omega) (by omega)
  rw [shl_word g, sitofp_ofNat (by omega)]
  unfold Ideal.div
  rw [if_neg (by exact_mod_cast (pow_pos (by norm_num : 0 < 2) _).ne'), one_mul]
  have e : ((2 ^ ((g : ℕ) + 1) : ℕ) : EReal) = ((2 ^ ((g : ℕ) + 1) : ℝ) : EReal) := by
    rw [← EReal.coe_natCast]
    push_cast
    rfl
  rw [e, ← EReal.coe_inv, slope, inv_pow]

theorem neg_inf_word : Ideal.ofBits FTy.f32 4286578688#32 = ⊥ := by simp [Ideal.ofBits, Ideal.ieee]

theorem eighth_word : Ideal.ofBits FTy.f32 1040187392#32 = ((8 : ℝ)⁻¹ : ℝ) := by
  simp [Ideal.ofBits, Ideal.ieee, -EReal.coe_mul] <;> norm_num

/-! ## The steps -/

theorem v17_apply (b : Fin 8) (s : Fin 2048) (n : Fin 2304) : res_main_v17 V (ix3 b s n) = (refArgs V).pr b s n := by
  pointwise [res_main_v17]
  unfold Args.pr Args.hr rootMean
  simp only [refArgs, ext3_at, ext3_val, ext2_at]

/-- A swish as the reference writes it. -/
theorem swish_eq (z : EReal) : z * Ideal.div 1 (1 + Ideal.exp (-z)) = swish z := by rw [swish, zero_sub]

theorem v111_apply (b : Fin 8) (kv : Fin 2) (g : Fin 4) (s : Fin 2048) (t : Fin 2049) : res_main_v111 V (ix5 b kv g s t)
    = (refArgs V).logit b (kv * 4 + g) s t := by
  unfold Args.logit
  pointwise [res_main_v111, res_main_v85, res_main_v80]
  by_cases h : (t : ℕ) < 2048
  · rw [dif_pos h, if_pos h, window_select s.isLt h (by decide), slope_float ⟨kv * 4 + g, by omega⟩, Args.score]
    by_cases w : (t : ℕ) ≤ s ∧ (s : ℕ) < t + 128
    · rw [if_pos w, if_pos w, sub_float s.isLt h w.1, eighth_word, zero_sub]
      refine congrArg (· + _) (congrArg (· * _) (Finset.sum_congr rfl fun l _ => ?_))
      rw [v17_apply, v17_apply]
      refine congrArg₂ (· * ·) (congrArg (Args.pr _ b t) ?_) (congrArg (Args.pr _ b s) ?_)
      · show 1536 + ((kv : ℕ) * 64 + l) = _
        omega
      · show 1024 + ((kv : ℕ) * 256 + g * 64 + l) = _
        omega
    · rw [if_neg w, if_neg w]
      exact neg_inf_word
  · rw [dif_neg h, if_neg h]
    exact (ext2_at _ (⟨kv * 4 + g, by omega⟩ : Fin 8)).symm

theorem v111_token (b : Fin 8) (kv : Fin 2) (g : Fin 4) (s t : Fin 2048) :
    res_main_v111 V (ix5 b kv g s t.castSucc) = (refArgs V).score b (kv * 4 + g) s t :=
  (v111_apply V b kv g s t.castSucc).trans (if_pos t.isLt)

theorem v111_sink (b : Fin 8) (kv : Fin 2) (g : Fin 4) (s : Fin 2048) :
    res_main_v111 V (ix5 b kv g s (Fin.last 2048)) = (refArgs V).SK (kv * 4 + g) :=
  (v111_apply V b kv g s (Fin.last 2048)).trans (if_neg (lt_irrefl _))

/-- The largest of `n + 1` numbers. -/
theorem fold_last {n : ℕ} (f : Fin (n + 1) → EReal) :
    Finset.univ.fold max ⊥ f = max (Finset.univ.fold max ⊥ fun k : Fin n => f k.castSucc) (f (Fin.last n)) := by
  refine le_antisymm (Finset.fold_max_le _ |>.mpr ⟨bot_le, fun k _ => ?_⟩) (max_le (Finset.fold_max_le _ |>.mpr
    ⟨bot_le, fun k _ => ?_⟩) ?_)
  · refine Fin.lastCases ?_ (fun k => ?_) k
    · exact le_max_right _ _
    · exact le_max_of_le_left ((Finset.le_fold_max _).mpr (.inr ⟨k, Finset.mem_univ _, le_rfl⟩))
  · exact (Finset.le_fold_max _).mpr (.inr ⟨_, Finset.mem_univ _, le_rfl⟩)
  · exact (Finset.le_fold_max _).mpr (.inr ⟨_, Finset.mem_univ _, le_rfl⟩)

/-- The largest of a row, as the host's reduction finds it. -/
theorem max_row (x : FVec Ideal S8x2x4x2048x2049 .f32) (b : Fin 8) (kv : Fin 2) (g : Fin 4) (s : Fin 2048) :
    Host.reduce FloatOps.maximumf x (constant (F := Ideal) S_ .f32 0xFF800000#32) reducesTo_S8x2x4x2048x2049_S8x2x4x2048_d4 h_S_
      (ix4 b kv g s) = Finset.univ.fold max ⊥ fun k => x (ix5 b kv g s k) := by
  refine (Host.reduce_eq_fold (α := EReal) max x _ reducesTo_S8x2x4x2048x2049_S8x2x4x2048_d4 h_S_ (ix4 b kv g s)).trans ?_
  refine (Shape.ReducesTo.fold_fiber_r5_a4 (α := EReal) reducesTo_S8x2x4x2048x2049_S8x2x4x2048_d4 (ix4 b kv g s) max _ x).trans ?_
  exact congrArg (fun z => Finset.univ.fold max z fun k => x (ix5 b kv g s k)) neg_inf_word

/-- The exponentials of an array's numbers less a number of their row. -/
theorem exp_row (x : FVec Ideal S8x2x4x2048x2049 .f32) (y : FVec Ideal S8x2x4x2048 .f32) (b : Fin 8) (kv : Fin 2) (g : Fin 4)
    (s : Fin 2048) (t : Fin 2049) :
    Host.exp (subf x (broadcastInDim S8x2x4x2048x2049 ![0, 1, 2, 3, 4] bcast_S8x2x4x2048x1_S8x2x4x2048x2049_0_1_2_3_4
      (broadcastInDim S8x2x4x2048x1 ![0, 1, 2, 3] bcast_S8x2x4x2048_S8x2x4x2048x1_0_1_2_3
        (maximumf (broadcastInDim S8x2x4x2048 ![] bcast_S_S8x2x4x2048 (constant S_ .f32 0xFF800000#32)) y))))
      (ix5 b kv g s t)
      = Ideal.exp (x (ix5 b kv g s t) - y (ix4 b kv g s)) := by
  pointwise
  rw [neg_inf_word, max_eq_right bot_le]

theorem top_apply (b : Fin 8) (kv : Fin 2) (g : Fin 4) (s : Fin 2048) :
    (Finset.univ.fold max ⊥ fun k : Fin 2049 => (refArgs V).logit b (kv * 4 + g) s k) = (refArgs V).top b (kv * 4 + g) s := by
  rw [fold_last]
  refine congrArg₂ max (congrArg (Finset.fold max ⊥ · _) (funext fun t => ?_)) ?_
  · exact if_pos t.isLt
  · exact if_neg (lt_irrefl _)

theorem v118_apply (b : Fin 8) (kv : Fin 2) (g : Fin 4) (s : Fin 2048) (t : Fin 2049) : res_main_v118 V (ix5 b kv g s t)
    = Ideal.exp ((refArgs V).logit b (kv * 4 + g) s t - (refArgs V).top b (kv * 4 + g) s) := by
  refine (exp_row (res_main_v111 V) _ b kv g s t).trans ?_
  rw [v111_apply, max_row, ← top_apply]
  simp only [v111_apply]

theorem mass_apply (a : Args) (b hd s : ℕ) :
    (∑ t : Fin 2049, Ideal.exp (a.logit b hd s t - a.top b hd s)) = a.mass b hd s := by
  rw [Fin.sum_univ_castSucc, Args.mass]
  refine congrArg₂ (· + ·) (Finset.sum_congr rfl fun t _ => ?_) ?_
  · rw [Args.logit, if_pos (by exact t.isLt)]
    rfl
  · rw [Args.logit, if_neg (by simp)]

theorem v132_apply (b : Fin 8) (s : Fin 2048) (d : Fin 1024) : res_main_v132 V (ix3 b s d) = (refArgs V).Yr b s d := by
  pointwise [res_main_v132, res_main_v28, res_main_v31, res_main_v32, res_main_v37, res_main_v19, res_main_v23]
  simp only [v17_apply, v118_apply, mass_apply, swish_eq]
  have e := Fin.sum_univ_add (a := 512) (b := 512) fun n : Fin (512 + 512) => (refArgs V).mixr b s n * (refArgs V).WO n d
  refine Eq.trans (congrArg₂ (· + ·) ?_ ?_) e.symm
  · refine Finset.sum_congr rfl fun n _ => ?_
    rw [show ((Fin.castAdd 512 n : Fin (512 + 512)) : ℕ) = n from rfl, Args.mixr, if_pos n.isLt]
    refine Ideal.mul_congr (Ideal.mul_congr (Ideal.mul_congr (Finset.sum_congr rfl fun k _ => ?_) (ext2_at _ n).symm) rfl)
      (ext3_at _ (Fin.castAdd 512 n) d).symm
    rw [mul_comm]
    refine Ideal.mul_congr ?_ (ext4_of _ (by decide) (by omega) k.isLt (by omega))
    have hg : (n : ℕ) / 128 < 8 := by omega
    have e1 : (128 * ((n : ℕ) / 128) + k) / 128 = n / 128 := by omega
    have e2 : (n : ℕ) / 128 * 128 + k = 128 * (n / 128) + k := by omega
    have h2 : 2 ^ ((n : ℕ) / 128 + 1) ≤ 2 ^ 8 := Nat.pow_le_pow_right (by omega) (by omega)
    rw [count_float s.isLt hg, show IntOp.shli ArithUnit.host 2#32 (BitVec.ofNat 32 ((n : ℕ) / 128)) = _ from shl_word ⟨_, hg⟩,
      Args.poolr, e1, e2]
    refine congrArg (fun z => Ideal.div z _ - _) (Finset.sum_congr rfl fun t _ => ?_)
    rw [window_select s.isLt t.isLt (by show 2 ^ ((n : ℕ) / 128 + 1) < _; omega)]
    show (if (t : ℕ) ≤ s ∧ (s : ℕ) < t + 2 ^ ((n : ℕ) / 128 + 1) then _ else _) = _
    by_cases h : (t : ℕ) ≤ s ∧ (s : ℕ) < t + 2 ^ ((n : ℕ) / 128 + 1)
    · rw [if_pos h, if_pos h, mul_one]
    · rw [if_neg h, if_neg h, mul_zero]
  · refine Finset.sum_congr rfl fun n _ => ?_
    rw [Args.mixr, if_neg (by simp)]
    have e0 : ((Fin.natAdd 512 n : Fin (512 + 512)) : ℕ) = 512 + n := rfl
    have e1 : (n : ℕ) / 256 * 4 + n / 64 % 4 = (512 + n - 512) / 64 := by omega
    have e2 : 1664 + ((n : ℕ) / 256 * 64 + n % 64) = 1664 + 64 * ((512 + n - 512) / 64 / 4) + (512 + n) % 64 := by omega
    rw [e0]
    refine Ideal.mul_congr (Ideal.mul_congr ?_ ?_) (ext3_at _ (Fin.natAdd 512 n) d).symm
    · rw [Args.attn, e1, e2]
      refine Finset.sum_congr rfl fun t _ => ?_
      rw [Args.logit, if_pos t.isLt]
    · rw [show 1792 + (n : ℕ) = 1792 + (512 + n - 512) by omega]

/-- The reference's result. -/
theorem ref_apply (b : Fin 8) (s : Fin 2048) (d : Fin 1024) :
    addf (V (Proc.devRef .tc main_arg0)) (mulf (mulf (res_main_v132 V) (broadcastInDim S8x2048x1024 ![0, 1, 2]
      bcast_S8x2048x1_S8x2048x1024_0_1_2 (Host.rsqrt (addf (Host.divf (broadcastInDim S8x2048x1 ![0, 1]
        bcast_S8x2048_S8x2048x1_0_1 (Host.reduceAdd (mulf (res_main_v132 V) (res_main_v132 V)) (constant S_ .f32 0x00000000#32)
          reducesTo_S8x2048x1024_S8x2048_d2 h_S_)) (broadcastInDim S8x2048x1 ![] bcast_S_S8x2048x1
          (constant S_ .f32 0x44800000#32))) (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2]
        bcast_S1024_S1x1x1024_2 (shapeCast _ (extractStridedSlice S1x1024 ![1, 0] (V (Proc.devRef .tc main_arg7))
          slices_S2x1024_S1x1024_1_0) shapeCasts_S1x1024_S1024)))) (ix3 b s d) = (refArgs V).outr b s d := by
  pointwise
  simp only [v132_apply]
  rw [Args.outr, rootMean]
  exact congrArg₂ (· + ·) (ext3_val _ b s d).symm (Ideal.mul_congr rfl (ext2_at _ d).symm)

end Cert.Layer

end
-- ==== Proof.CaseA.lean ====
/-
  The first point: what its stores leave, the tables it makes among them.
-/
module

public import proofs.«01_k».proof.Proof.Stored
public import proofs.«01_k».proof.Proof.Setup

@[expose] public section

set_option maxRecDepth 16384

noncomputable section

namespace Cert.Layer.A

open Idealize.ShloMosaic Idealize.ShloMosaic.TcCoe
open Cert.KernelIdeal Cert.KernelIdeal.Gen

variable {t : Tile} {c : Dev nD} {i : grid0.Coords}
  {arg2 : Memref sig .tc .vmem S1x1024x1024 .f32} {harg2 : arg2.IsWhole}
  {arg5 : Memref sig .tc .vmem S2x512 .f32} {harg5 : arg5.IsWhole}
  {arg6 : Memref sig .tc .smem S2x8 .f32} {harg6 : arg6.IsWhole}
  {arg8 : Memref sig .tc .vmem S2x1024 .f32} {harg8 : arg8.IsWhole}
  {arg11 : Memref sig .tc .vmem S1040x512 .f32} {harg11 : arg11.IsWhole}
  {arg12 : Memref sig .tc .vmem S1024x512 .bf16}
  {arg13 : Memref sig .tc .vmem S2x1152x128 .bf16} {harg13 : arg13.IsWhole}
  {arg14 : Memref sig .tc .vmem S128x1152 .bf16} {harg14 : arg14.IsWhole}
  {arg15 arg16 : Memref sig .tc .vmem S1024x512 .f32} {arg17 : Memref sig .tc .vmem S1024x512 .bf16}
  {arg19 : Memref sig .tc .vmem S3x384x256 .f32} {harg19 : arg19.IsWhole}
  {arg20 : Memref sig .tc .vmem S1024x2304 .bf16} {harg20 : arg20.IsWhole}
  {arg22 : Memref sig .tc .vmem S2x256x256 .bf16} {harg22 : arg22.IsWhole}
  {x0 : Vec Ideal S1x1024x1024 .f32} {x3 : Vec Ideal S2x512 .f32} {x4 : Vec Ideal S2x8 .f32}
  {x6 x7 : Vec Ideal S2x1024 .f32} {arg3 : Memref sig .tc .vmem S1x1024x2304 .f32} {harg3 : arg3.IsWhole}
  {arg4 : Memref sig .tc .vmem S1x4x128x128 .f32} {harg4 : arg4.IsWhole}
  {arg7 : Memref sig .tc .vmem S1x1024x1024 .f32} {harg7 : arg7.IsWhole}
  {arg21 : Memref sig .tc .vmem S1024x1024 .bf16}
  {x1 : Vec Ideal S1x1024x2304 .f32} {x2 : Vec Ideal S1x4x128x128 .f32} {x5 : Vec Ideal S1x1024x1024 .f32}
  {S1 S5 : ℕ → ℕ → EReal} {S2 : ℕ → ℕ → ℕ → EReal}
  (H : Inputs t x0 x3 x4 x6 x7) (G : Raw t x1 x2 x5 S1 S2 S5) (Z : t.Fresh)

/-- The bias tables. -/
theorem tables_agree (G : Raw t x1 x2 x5 S1 S2 S5) : Agrees (Val := Elt Ideal) (e := .f32) kernelRun0_A.sl.HS8_6
    fun y => t.BI (y 0) (y 1) (y 2) := by
  have e (r : Fin 192) (j : Fin 256) := table_entries r j
  have f (z kv : ℕ) (hk : kv < 2) (r : Fin 192) (j : Fin 256) : biasAt kv z r j = t.BI z (192 * kv + r) j := by
    rw [G.bi, show (192 * kv + (r : ℕ)) / 192 = kv by omega, show (192 * kv + (r : ℕ)) % 192 = r by omega]
  refine .cons3 (Val := Elt Ideal) (e := .f32) (S := t.BI) (fun i r j => ?_) ?_
  · rw [Fin.fin_one_eq_zero i]; exact (e r j).2.2.2.trans ((f 2 1 (by omega) r j).trans (by simp))
  refine .cons3 (Val := Elt Ideal) (e := .f32) (S := t.BI) (fun i r j => ?_) ?_
  · rw [Fin.fin_one_eq_zero i]; exact (e r j).2.2.1.trans ((f 1 1 (by omega) r j).trans (by simp))
  refine .cons3 (Val := Elt Ideal) (e := .f32) (S := t.BI) (fun i r j => ?_) ?_
  · rw [Fin.fin_one_eq_zero i]; exact (e r j).2.1.trans ((f 0 1 (by omega) r j).trans (by simp))
  refine .cons3 (Val := Elt Ideal) (e := .f32) (S := t.BI) (fun i r j => ?_) ?_
  · rw [Fin.fin_one_eq_zero i]; exact (e r j).1.2.2.trans ((f 2 0 (by omega) r j).trans (by simp))
  refine .cons3 (Val := Elt Ideal) (e := .f32) (S := t.BI) (fun i r j => ?_) ?_
  · rw [Fin.fin_one_eq_zero i]; exact (e r j).1.2.1.trans ((f 1 0 (by omega) r j).trans (by simp))
  refine .cons3 (Val := Elt Ideal) (e := .f32) (S := t.BI) (fun i r j => ?_) (.nil _)
  rw [Fin.fin_one_eq_zero i]; exact (e r j).1.1.trans ((f 0 0 (by omega) r j).trans (by simp))

theorem tables (G : Raw t x1 x2 x5 S1 S2 S5) (y) :
    View.canon (Val := Elt Ideal) (e := .f32) kernelRun0_A.sl.HS8_6 y = t.BI (y 0) (y 1) (y 2) :=
  (tables_agree G).canon (View.cover_of_tiledBy _ ![1, 192, 256] (by sl_kernel_rfl) y)

/-- The input weights. -/
theorem wi_agree (G : Raw t x1 x2 x5 S1 S2 S5) : Agrees (Val := Elt Ideal) (e := .bf16)
    (kernelRun0_A.sl.HS9_5 c arg3 harg3 x1) fun y => t.WI (y 0) (y 1) := by
  have L {b n : ℕ} (i0) (d : Fin 1024) (k : Fin n) := (readAt3 (Val := Elt Ideal) (S := fun _ d n => S1 d n) (k := 1) (m := 1024)
    (n := n) (z := 0) (a := 0) (b := b) arg3.view (harg3.unread x1)
    (read_whole3 (Val := Elt Ideal) (S := fun _ d n => S1 d n) arg3.view _ x1 (harg3.read_unread _) G.x1) i0 0 d k).trans
      (congrArg (fun a => S1 a _) (Nat.zero_add _))
  have W (d n : ℕ) : t.WI (0 + d) n = winOf S1 d n := by rw [Nat.zero_add, G.wi]
  refine .cons2 (Val := Elt Ideal) (e := .bf16) (S := t.WI) (fun d n => ?_) ?_
  · refine ((gathered _ 1792 (L _) d n).1).trans ((W _ _).trans ?_).symm
    rw [winOf, if_neg (by omega), if_neg (by omega), if_neg (by omega), Nat.add_sub_cancel_left]
  refine .cons2 (Val := Elt Ideal) (e := .bf16) (S := t.WI) (fun d n => ?_) ?_
  · refine (key_columns _ 1536 (L _) d n).trans ((W _ _).trans ?_).symm
    rw [winOf, if_neg (by omega), if_neg (by omega), if_pos (by omega)]
  refine .cons2 (Val := Elt Ideal) (e := .bf16) (S := t.WI) (fun d n => ?_) ?_
  · refine ((gathered _ 1024 (L _) d n).2).trans ((W _ _).trans ?_).symm
    rw [winOf, if_neg (by omega), if_pos (by omega), Nat.add_sub_cancel_left]
  refine .cons2 (Val := Elt Ideal) (e := .bf16) (S := t.WI) (fun d n => ?_) ?_
  · refine ((plain_columns _ 512 (L _) d n).2).trans ((W _ _).trans ?_).symm
    rw [winOf, if_pos (by omega)]
  refine .cons2 (Val := Elt Ideal) (e := .bf16) (S := t.WI) (fun d n => ?_) (.nil _)
  refine ((plain_columns _ 0 (L _) d n).1).trans ((W _ _).trans ?_).symm
  rw [winOf, if_pos (by omega)]

theorem wi (G : Raw t x1 x2 x5 S1 S2 S5) (y) : View.canon (Val := Elt Ideal) (e := .bf16)
    (kernelRun0_A.sl.HS9_5 c arg3 harg3 x1) y = t.WI (y 0) (y 1) :=
  (wi_agree G).canon (View.cover_of_tiledBy _ ![1024, 256] (by sl_kernel_rfl) y)

/-- The last 1280 columns of the input weights. -/
theorem wi_right (G : Raw t x1 x2 x5 S1 S2 S5) (d : Fin 1024) (n : Fin 1280) :
    arg20.view.readCov (Val := Elt Ideal) (kernelRun0_A.sl.HS9_5 c arg3 harg3 x1) (Rect.unit (s := S1024x2304) ![0, 1024] S1024x1280.size
      inb_S1024x2304_S1024x1280_0_1024).toLoadRect (ix2 d n) = t.WI d (1024 + n) :=
  (readCov2 (Val := Elt Ideal) (S := t.WI) (m := 1024) (n := 1280) (a := 0) (b := 1024) arg20.view _ 0 (fun y _ => wi G y)
    (by omega) _ d n).trans (by simp)

/-- The first 1024 columns. -/
theorem wi_left (G : Raw t x1 x2 x5 S1 S2 S5) (d n : Fin 1024) :
    arg20.view.readCov (Val := Elt Ideal) (kernelRun0_A.sl.HS9_5 c arg3 harg3 x1) (Rect.unit (s := S1024x2304) ![0, 0] S1024x1024.size
      inb_S1024x2304_S1024x1024_0_0).toLoadRect (ix2 d n) = t.WI d n :=
  (readCov2 (Val := Elt Ideal) (S := t.WI) (m := 1024) (n := 1024) (a := 0) (b := 0) arg20.view _ 0 (fun y _ => wi G y)
    (by omega) _ d n).trans (by simp)

/-- The output weights. -/
theorem wo_agree (G : Raw t x1 x2 x5 S1 S2 S5) : Agrees (Val := Elt Ideal) (e := .bf16)
    (kernelRun0_A.sl.HS10_2 c arg7 harg7 x5) fun y => t.WO (y 0) (y 1) := by
  have L {b : ℕ} (i0) (n : Fin 512) (d : Fin 1024) := (readAt3 (Val := Elt Ideal) (S := fun _ n d => S5 n d) (k := 1) (m := 512)
    (n := 1024) (z := 0) (a := b) (b := 0) arg7.view (harg7.unread x5)
    (read_whole3 (Val := Elt Ideal) (S := fun _ n d => S5 n d) arg7.view _ x5 (harg7.read_unread _) G.x5) i0 0 n d).trans
      (congrArg (fun a => S5 _ a) (Nat.zero_add _))
  have W (n d : ℕ) : t.WO n (0 + d) = woutOf S5 n d := by rw [Nat.zero_add, G.wo]
  refine .cons2 (Val := Elt Ideal) (e := .bf16) (S := t.WO) (fun n d => ?_) ?_
  · refine (scattered _ 512 (L _) n d).trans ((W _ _).trans ?_).symm
    rw [woutOf, if_neg (by omega), Nat.add_sub_cancel_left]
  refine .cons2 (Val := Elt Ideal) (e := .bf16) (S := t.WO) (fun n d => ?_) (.nil _)
  refine (plain_rows _ 0 (L _) n d).trans ((W _ _).trans ?_).symm
  rw [woutOf, if_pos (by omega)]

theorem wo (G : Raw t x1 x2 x5 S1 S2 S5) (y) : View.canon (Val := Elt Ideal) (e := .bf16)
    (kernelRun0_A.sl.HS10_2 c arg7 harg7 x5) y = t.WO (y 0) (y 1) :=
  (wo_agree G).canon (View.cover_of_tiledBy _ ![512, 1024] (by sl_kernel_rfl) y)

/-- The pool's weights: four blocks over a table of zeros. -/
theorem pw (G : Raw t x1 x2 x5 S1 S2 S5) (y) : View.canon (Val := Elt Ideal) (e := .bf16)
    (kernelRun0_A.sl.HS11_5 c arg4 harg4 x2) y = t.PW (y 0) (y 1) (y 2) := by
  have L (g : ℕ) (i0) (a b : Fin 128) := read_group (Val := Elt Ideal) (S := S2) arg4.view (harg4.unread x2) x2
    (harg4.read_unread _) G.x2 g i0 a b
  have W (g : ℕ) (i : Fin 1) (a b : Fin 128) {p q r : ℕ} (hp : p = g / 2) (hq : q = 128 * (g % 2)) (hr : r = 128 * (g % 2)) :
      S2 g a b = t.PW (p + i) (q + a) (r + b) := by
    subst hp hq hr
    rw [G.pw, poolWOf, if_pos (by omega), show 2 * (g / 2 + (i : ℕ)) + (128 * (g % 2) + (a : ℕ)) / 128 = g by omega,
      show (128 * (g % 2) + (a : ℕ)) % 128 = a by omega, show (128 * (g % 2) + (b : ℕ)) % 128 = b by omega]
  refine fills3 (Val := Elt Ideal) (e := .bf16) (S := t.PW) y (fun i a b => ((group_block _ _ (L 3 _) i a b).2.2).trans
    (W 3 i a b rfl rfl rfl)) fun h3 => ?_
  refine fills3 (Val := Elt Ideal) (e := .bf16) (S := t.PW) y (fun i a b => ((group_block _ _ (L 2 _) i a b).2.1).trans
    (W 2 i a b rfl rfl rfl)) fun h2 => ?_
  refine fills3 (Val := Elt Ideal) (e := .bf16) (S := t.PW) y (fun i a b => ((group_block _ _ (L 1 _) i a b).1.2).trans
    (W 1 i a b rfl rfl rfl)) fun h1 => ?_
  refine fills3 (Val := Elt Ideal) (e := .bf16) (S := t.PW) y (fun i a b => ((group_block _ _ (L 0 _) i a b).1.1).trans
    (W 0 i a b rfl rfl rfl)) fun h0 => ?_
  refine (fills3 (Val := Elt Ideal) (e := .bf16) (S := fun _ _ _ => 0) y (fun i a b => zero_block i a b) fun h => ?_).trans ?_
  · exact (h ⟨Nat.zero_le _, (y 0).isLt⟩ ⟨Nat.zero_le _, (y 1).isLt⟩ ⟨Nat.zero_le _, (y 2).isLt⟩).elim
  rw [G.pw, poolWOf, if_neg]
  have b0 : (y 0 : ℕ) < 2 := (y 0).isLt
  have b1 : (y 1 : ℕ) < 256 := (y 1).isLt
  have b2 : (y 2 : ℕ) < 256 := (y 2).isLt
  intro e
  by_cases z0 : (y 0 : ℕ) = 0 <;> by_cases z1 : (y 1 : ℕ) < 128
  · exact h0 (by omega) (by omega) (by omega)
  · exact h1 (by omega) (by omega) (by omega)
  · exact h2 (by omega) (by omega) (by omega)
  · exact h3 (by omega) (by omega) (by omega)

section buffers

include H G Z

theorem q_agree : Agrees (kernelRun0_A.sl.HS1_1 c arg2 harg2 arg3 harg3 arg8 harg8 arg20 x0 x1 x6)
    fun y => t.buf.Q (y 0) (y 1) :=
  .cons2 (fun r n => (pay39_apply (H.holds _ _) (wi_right G) r n).trans (by simp)) (.nil _)

theorem q (y) : View.canon (kernelRun0_A.sl.HS1_1 c arg2 harg2 arg3 harg3 arg8 harg8 arg20 x0 x1 x6) y
    = t.buf.Q (y 0) (y 1) :=
  (q_agree H G Z).canon (View.cover_of_tiledBy _ ![1024, 512] (by sl_kernel_rfl) y)

theorem ag_agree : Agrees (kernelRun0_A.sl.HS4_1 c arg2 harg2 arg3 harg3 arg8 harg8 arg20 x0 x1 x6)
    fun y => t.buf.AG (y 0) (y 1) :=
  .cons2 (fun r n => (pay42_apply (H.holds _ _) (wi_right G) r n).trans (by simp)) (.nil _)

theorem ag (y) : View.canon (kernelRun0_A.sl.HS4_1 c arg2 harg2 arg3 harg3 arg8 harg8 arg20 x0 x1 x6) y
    = t.buf.AG (y 0) (y 1) :=
  (ag_agree H G Z).canon (View.cover_of_tiledBy _ ![1024, 512] (by sl_kernel_rfl) y)

theorem keys_agree : Agrees (kernelRun0_A.sl.HS2_3 c arg2 harg2 arg3 harg3 arg8 harg8 arg20 x0 x1 x6)
    fun y => t.buf.K (y 0) (y 1) (y 2) :=
  .cons3 (fun i r n => by
      rw [Fin.fin_one_eq_zero i]; exact (highKeys_apply (H.holds _ _) (wi_right G) r n).trans (by simp))
    (.cons3 (fun i r n => by
      rw [Fin.fin_one_eq_zero i]; exact (lowKeys_apply (H.holds _ _) (wi_right G) r n).trans (by simp))
    (.cons3 (fresh_k Z) (.nil _)))

theorem keys (y) : View.canon (kernelRun0_A.sl.HS2_3 c arg2 harg2 arg3 harg3 arg8 harg8 arg20 x0 x1 x6) y
    = t.buf.K (y 0) (y 1) (y 2) :=
  (keys_agree H G Z).canon (View.cover_of_tiledBy _ ![1, 128, 128] (by sl_kernel_rfl) y)

theorem values_agree : Agrees (kernelRun0_A.sl.HS3_2 c arg2 harg2 arg3 harg3 arg8 harg8 arg20 x0 x1 x6)
    fun y => t.buf.V (y 0) (y 1) :=
  .cons2 (fun l r => (valueRows_apply (H.holds _ _) (wi_right G) l r).trans (by simp)) (.cons2 (fresh_v Z) (.nil _))

theorem values (y) : View.canon (kernelRun0_A.sl.HS3_2 c arg2 harg2 arg3 harg3 arg8 harg8 arg20 x0 x1 x6) y
    = t.buf.V (y 0) (y 1) :=
  (values_agree H G Z).canon (View.cover_of_tiledBy _ ![128, 128] (by sl_kernel_rfl) y)

theorem input_agree : Agrees (kernelRun0_A.sl.HS0_2 c arg2 harg2 arg3 harg3 arg8 harg8 arg20 x0 x1 x6)
    fun y => t.U (y 0) (y 1) :=
  .cons2 (fun r n => (poolInput_apply (H.holds _ _) (wi_left G) r n).trans (by simp)) (.cons2 (fresh_u Z) (.nil _))

theorem input (y) : View.canon (kernelRun0_A.sl.HS0_2 c arg2 harg2 arg3 harg3 arg8 harg8 arg20 x0 x1 x6) y
    = t.U (y 0) (y 1) :=
  (input_agree H G Z).canon (View.cover_of_tiledBy _ ![16, 512] (by sl_kernel_rfl) y)

theorem gate_agree : Agrees (kernelRun0_A.sl.HS5_1 c arg2 harg2 arg3 harg3 arg8 harg8 arg20 x0 x1 x6)
    fun y => t.PG (y 0) (y 1) :=
  .cons2 (fun r n => (poolGate_apply (H.holds _ _) (wi_left G) r n).trans (by simp [Tile.PG])) (.nil _)

theorem gate (y) : View.canon (kernelRun0_A.sl.HS5_1 c arg2 harg2 arg3 harg3 arg8 harg8 arg20 x0 x1 x6) y
    = t.PG (y 0) (y 1) :=
  (gate_agree H G Z).canon (View.cover_of_tiledBy _ ![1024, 512] (by sl_kernel_rfl) y)

theorem sinks0 (j : Fin 256) : kernelRun0_A.sl.r_11 (F := Ideal) c arg6 harg6 x4 (ix2 0 j) = t.buf.SK 0 j :=
  sinks_low_of (sink_cell H 0 _ _) (sink_cell H 1 _ _) (sink_cell H 2 _ _) (sink_cell H 3 _ _) j

theorem sinks1 (j : Fin 256) : kernelRun0_A.sl.r_15 (F := Ideal) c arg6 harg6 x4 (ix2 0 j) = t.buf.SK 1 j :=
  sinks_high_of (sink_cell H 4 _ _) (sink_cell H 5 _ _) (sink_cell H 6 _ _) (sink_cell H 7 _ _) j

variable (hi : (i 1 : ℕ) = 0)

include hi

theorem count (r : Fin 1024) (n : Fin 128) :
    kernelRun0_A.sl.r_10 (F := Ideal) i (ix2 r n) = ((1024 * t.T + r + 1 : ℕ) : EReal) :=
  pay47_apply (i 1 : ℕ) (by omega) (Z.zero.trans hi.symm) r n

theorem pooled_agree : Agrees (kernelRun0_A.sl.HS6_4 c i arg2 harg2 arg3 harg3 arg8 harg8 arg11 arg20 x0 x1 x6)
    fun y => t.pooled (y 0) (y 1) := by
  have hu {b : ℕ} (inb) (r : Fin 1040) (n : Fin 128) := readCov2 (Val := Elt Ideal) (S := t.U) (b := b) arg11.view
    (kernelRun0_A.sl.HS0_2 c arg2 harg2 arg3 harg3 arg8 harg8 arg20 x0 x1 x6) 0 (fun y _ => input H G Z y) (Nat.zero_le _) (a := 0) (m := 1040) (n := 128) inb r n
  exact .cons2 (pool_piece (g := 3) (hu _) (count H G Z hi) pool_widths.2.2.2 (double_sum (g := 3) (hu _)).2.2.2)
    (.cons2 (pool_piece (g := 2) (hu _) (count H G Z hi) pool_widths.2.2.1 fun n r h =>
        (double_sum (g := 2) (hu _)).2.2.1 n r (by omega))
    (.cons2 (pool_piece (g := 1) (hu _) (count H G Z hi) pool_widths.2.1 fun n r h =>
        (double_sum (g := 1) (hu _)).2.1 n r (by omega))
    (.cons2 (pool_piece (g := 0) (hu _) (count H G Z hi) pool_widths.1 fun n r h =>
        (double_sum (g := 0) (hu _)).1 n r (by omega)) (.nil _))))

theorem pooled (y) : View.canon (kernelRun0_A.sl.HS6_4 c i arg2 harg2 arg3 harg3 arg8 harg8 arg11 arg20 x0 x1 x6) y
      = t.pooled (y 0) (y 1) :=
  (pooled_agree H G Z hi).canon (View.cover_of_tiledBy _ ![1024, 128] (by sl_kernel_rfl) y)

theorem stored : Stored t (kernelRun0_A.sl.HS1_1 c arg2 harg2 arg3 harg3 arg8 harg8 arg20 x0 x1 x6)
    (kernelRun0_A.sl.HS2_3 c arg2 harg2 arg3 harg3 arg8 harg8 arg20 x0 x1 x6) (kernelRun0_A.sl.HS3_2 c arg2 harg2 arg3 harg3 arg8 harg8 arg20 x0 x1 x6)
    (kernelRun0_A.sl.HS4_1 c arg2 harg2 arg3 harg3 arg8 harg8 arg20 x0 x1 x6) (kernelRun0_A.sl.HS5_1 c arg2 harg2 arg3 harg3 arg8 harg8 arg20 x0 x1 x6)
    (kernelRun0_A.sl.HS6_4 c i arg2 harg2 arg3 harg3 arg8 harg8 arg11 arg20 x0 x1 x6) :=
  ⟨q H G Z, keys H G Z, values H G Z, ag H G Z, gate H G Z, pooled H G Z hi⟩

end buffers

section mix

include G

theorem bias {z : ℕ} {off : Fin 3 → ℕ} (ho : off = ![z, 0, 0]) (inb) (r : Fin 384) (j : Fin 256) :
    shapeCast S384x256 (View.readAt (Elt Ideal) arg19.view (Rect.unit (s := S3x384x256) off S1x384x256.size inb).toLoadRect
      (arg19.view.writes (Elt Ideal) arg19.view.junk kernelRun0_A.sl.HS8_6)) shapeCasts_S1x384x256_S384x256 (ix2 r j)
      = t.BI z r j := by
  subst ho
  have e (y) : arg19.view.read (Elt Ideal) (arg19.view.writes (Elt Ideal) arg19.view.junk kernelRun0_A.sl.HS8_6) y
      = t.BI (y 0) (y 1) (y 2) :=
    (tables_agree G).writes arg19.view arg19.view.junk (.inl (View.cover_of_tiledBy _ ![1, 192, 256] (by sl_kernel_rfl) y))
  refine bias_apply _ (fun r j => t.BI z r j) (fun r j => ?_) r j
  refine (readAt3 (Val := Elt Ideal) (S := t.BI) arg19.view _ e inb 0 r j).trans ?_
  simp

theorem bias_inner (inb) (r : Fin 384) (j : Fin 256) :
    shapeCast S384x256 (arg19.view.readCov (Val := Elt Ideal) kernelRun0_A.sl.HS8_6
      (Rect.unit (s := S3x384x256) ![0, 0, 0] S1x384x256.size inb).toLoadRect) shapeCasts_S1x384x256_S384x256 (ix2 r j)
      = t.BI 0 r j := by
  refine bias_apply _ (fun r j => t.BI 0 r j) (fun r j => ?_) r j
  refine (readCov3 (Val := Elt Ideal) (S := t.BI) arg19.view _ 0 (fun y _ => tables G y) (by omega) inb 0 r j).trans ?_
  simp

theorem weights {z : ℕ} (i0) (a b : Fin 256) : arg22.view.readCov (Val := Elt Ideal) (kernelRun0_A.sl.HS11_5 c arg4 harg4 x2)
      (Rect.unit (s := S2x256x256) ![z, 0, 0] S1x256x256.size i0).toLoadRect (ix3 0 a b) = t.PW z a b :=
  (readCov3 (Val := Elt Ideal) (S := t.PW) (k := 1) (m := 256) (n := 256) (z := z) (a := 0) (b := 0) arg22.view _ 0
    (fun y _ => pw G y) (by omega) i0 0 a b).trans (by simp)

variable (hi : (i 1 : ℕ) = 0)

include H Z hi

theorem mix_agree : Agrees (kernelRun0_A.sl.HS7_66 c i arg2 harg2 arg3 harg3 arg4 harg4 arg5 harg5 arg6 harg6 arg8 harg8 arg11 arg12 arg13 arg14 arg15 arg16 arg17 arg19 arg20 arg22 x0 x1 x2 x3 x4 x6)
    fun y => t.mix (y 0) (y 1) := by
  have F := stored (c := c) (arg2 := arg2) (harg2 := harg2) (arg8 := arg8) (harg8 := harg8) (arg11 := arg11)
    (arg3 := arg3) (harg3 := harg3) (arg20 := arg20) H G Z hi
  have V {a : ℕ} (h : 128 ≤ a) (i0) (r : Fin 384) (j : Fin 256) := (bias_inner G (arg19 := arg19) i0 r j).trans (congrArg (fun f => t.BI f r j) (variant_two t h).symm)
  have B (a : ℕ) {off : Fin 3 → ℕ} (h : off = ![2 - a / 64, 0, 0]) (i0) (r : Fin 384) (j : Fin 256) := (bias G (arg19 := arg19) h i0 r j).trans (congrArg (fun f => t.BI f r j) (Z.variant (a / 64)).symm)
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .cons2 (F.pool (i := 1) (by omega) rfl (weights G _) (scale_row H _) _ _) ?_
  refine .cons2 (F.pool (i := 0) (by omega) rfl (weights G _) (scale_row H _) _ _) ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (B 64 (off_first hi).2 _) (sinks0 H G Z) (sinks1 H G Z) _ _ _ _ _ _ _ _) rfl (F.gate _) (F.gate _) (F.gate _) (F.gate _) rfl ?_
  refine .below (F.reads (B 0 (off_first hi).1 _) (sinks0 H G Z) (sinks1 H G Z) _ _ _ _ _ _ _ _) rfl (F.gate _) (F.gate _) (F.gate _) (F.gate _) rfl (.nil _)

theorem mix (y) : View.canon (kernelRun0_A.sl.HS7_66 c i arg2 harg2 arg3 harg3 arg4 harg4 arg5 harg5 arg6 harg6 arg8 harg8 arg11 arg12 arg13 arg14 arg15 arg16 arg17 arg19 arg20 arg22 x0 x1 x2 x3 x4 x6) y
    = t.mix (y 0) (y 1) :=
  (mix_agree H G Z hi).canon (View.cover_of_tiledBy _ ![64, 128] (by sl_kernel_rfl) y)

end mix

section result

variable {arg10 : Memref sig .tc .vmem S1x1024x1024 .f32} {harg10 : arg10.IsWhole}
  {arg9 : Memref sig .tc .vmem S2x1024 .f32} {harg9 : arg9.IsWhole} {harg12 : arg12.IsWhole}
  {harg15 : arg15.IsWhole} {harg16 : arg16.IsWhole} {harg17 : arg17.IsWhole}
  {arg18 : Memref sig .tc .vmem S1024x1024 .bf16} {harg18 : arg18.IsWhole} {harg21 : arg21.IsWhole}
  {hc0 : cond0_0 i} {hc1 : cond0_1 i}
  (hi : (i 1 : ℕ) = 0)

include H G Z hi

theorem out_agree : Agrees (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7).1 fun y => t.out (y 1) (y 2) := by
  have O (i0) (n d : Fin 1024) := (readCov2 (Val := Elt Ideal) (S := t.WO) (m := 1024) (n := 1024) (a := 0) (b := 0) arg21.view
    (kernelRun0_A.sl.HS10_2 c arg7 harg7 x5) 0 (fun y _ => wo G y) (by omega) i0 n d).trans
      (by rw [Nat.zero_add, Nat.zero_add])
  refine .cons3 (Val := Elt Ideal) (e := .f32) (S := fun _ r d => t.out r d) ?_ ?_
  · exact out_rows (mix H G Z hi) H (O _) _ _ _
  refine .cons3 (Val := Elt Ideal) (e := .f32) (S := fun _ r d => t.out r d) ?_ (.nil _)
  exact out_rows (mix H G Z hi) H (O _) _ _ _

theorem out (r d : Fin 1024) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 (ix3 0 r d) = t.out r d :=
  (out_agree H G Z hi).writes VO0_8 VO0_8.junk (.inl (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 (ix3 0 r d)))

omit hi in
/-- What it hands to the next tile. -/
theorem halo {t' : Tile} (hu : ∀ p n, p < 16 → t'.HU p n = t.U (1024 + p) n)
    (hk : ∀ i p l, p < 128 → t'.HK i p l = t.buf.K i (1024 + p) l) (hv : ∀ l p, p < 128 → t'.HV l p = t.buf.V l (1024 + p)) :
    Halo t' (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7) (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7) (sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7) where
  u r n hr := (halo_u (input H G Z) _ _ _ r n hr).trans (hu _ _ hr).symm
  k i r l hr := (halo_k (keys H G Z) _ _ _ i r l hr).trans (hk _ _ _ hr).symm
  v l r hr := (halo_v (values H G Z) _ _ _ l r hr).trans (hv _ _ hr).symm

omit H Z hi in
/-- The tables it keeps for the later points. -/
theorem kept {t' : Tile} (hb : t'.BI = t.BI) (hi : t'.WI = t.WI) (ho : t'.WO = t.WO) (hp : t'.PW = t.PW) :
    Tables t' (sout0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7) (sout0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7) (sout0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7) (sout0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7) where
  bias f r j := (((tables_agree G).writes VS0_8 VS0_8.junk (.inl (scover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 (ix3 f r j)))).trans
    (congrFun (congrFun (congrFun hb _) _) _).symm)
  wi d n := (((wi_agree G).writes VS0_9 VS0_9.junk (.inl (scover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 (ix2 d n)))).trans
    (congrFun (congrFun hi _) _).symm)
  wo n d := (((wo_agree G).writes VS0_10 VS0_10.junk (.inl (scover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 (ix2 n d)))).trans
    (congrFun (congrFun ho _) _).symm)
  pw i' a b := ((View.read_writes_apply_eq_canon VS0_11 VS0_11.junk (ix3 i' a b) _
    (scover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 (ix3 i' a b))).trans (pw G (ix3 i' a b))).trans
    (congrFun (congrFun (congrFun hp _) _) _).symm

end result

end Cert.Layer.A

end
-- ==== Proof.CaseB.lean ====
/-
  The second tile of a batch: what its stores leave, from what the first tile left.
-/
module

public import proofs.«01_k».proof.Proof.Sub
public import proofs.«01_k».proof.Proof.Gen.KernelIdeal.Value

@[expose] public section

set_option maxRecDepth 16384

noncomputable section

namespace Cert.Layer.B

open Idealize.ShloMosaic Idealize.ShloMosaic.TcCoe
open Cert.KernelIdeal Cert.KernelIdeal.Gen

variable {t : Tile} {c : Dev nD} {i : grid0.Coords}
  {arg2 : Memref sig .tc .vmem S1x1024x1024 .f32} {harg2 : arg2.IsWhole}
  {arg5 : Memref sig .tc .vmem S2x512 .f32} {harg5 : arg5.IsWhole}
  {arg6 : Memref sig .tc .smem S2x8 .f32} {harg6 : arg6.IsWhole}
  {arg8 : Memref sig .tc .vmem S2x1024 .f32} {harg8 : arg8.IsWhole}
  {arg11 : Memref sig .tc .vmem S1040x512 .f32} {harg11 : arg11.IsWhole}
  {arg12 : Memref sig .tc .vmem S1024x512 .bf16}
  {arg13 : Memref sig .tc .vmem S2x1152x128 .bf16} {harg13 : arg13.IsWhole}
  {arg14 : Memref sig .tc .vmem S128x1152 .bf16} {harg14 : arg14.IsWhole}
  {arg15 arg16 : Memref sig .tc .vmem S1024x512 .f32} {arg17 : Memref sig .tc .vmem S1024x512 .bf16}
  {arg19 : Memref sig .tc .vmem S3x384x256 .f32} {harg19 : arg19.IsWhole}
  {arg20 : Memref sig .tc .vmem S1024x2304 .bf16} {harg20 : arg20.IsWhole}
  {arg22 : Memref sig .tc .vmem S2x256x256 .bf16} {harg22 : arg22.IsWhole}
  {x0 : Vec Ideal S1x1024x1024 .f32} {x3 : Vec Ideal S2x512 .f32} {x4 : Vec Ideal S2x8 .f32}
  {x6 x7 : Vec Ideal S2x1024 .f32} {xs0 : Vec Ideal S1040x512 .f32} {xs2 : Vec Ideal S2x1152x128 .bf16}
  {xs3 : Vec Ideal S128x1152 .bf16} {xs8 : Vec Ideal S3x384x256 .f32} {xs9 : Vec Ideal S1024x2304 .bf16}
  {xs10 : Vec Ideal S1024x1024 .bf16} {xs11 : Vec Ideal S2x256x256 .bf16}
  (H : Inputs t x0 x3 x4 x6 x7) (G : Tables t xs8 xs9 xs10 xs11) (W : Halo t xs0 xs2 xs3)

/-- The input weights, by coordinates. -/
theorem wi (G : Tables t xs8 xs9 xs10 xs11) (y) : arg20.view.read (Elt Ideal) (harg20.unread xs9) y = t.WI (y 0) (y 1) :=
  read_whole2 (Val := Elt Ideal) (S := t.WI) arg20.view _ xs9 (harg20.read_unread _) G.wi y

/-- The last 1280 columns of the input weights. -/
theorem wi_right (G : Tables t xs8 xs9 xs10 xs11) (d : Fin 1024) (n : Fin 1280) :
    View.readAt (Elt Ideal) arg20.view (Rect.unit (s := S1024x2304) ![0, 1024] S1024x1280.size
      inb_S1024x2304_S1024x1280_0_1024).toLoadRect (harg20.unread xs9) (ix2 d n) = t.WI d (1024 + n) :=
  (readAt2 _ _ (wi G) _ d n).trans (by simp)

/-- The first 1024 columns. -/
theorem wi_left (G : Tables t xs8 xs9 xs10 xs11) (d n : Fin 1024) :
    View.readAt (Elt Ideal) arg20.view (Rect.unit (s := S1024x2304) ![0, 0] S1024x1024.size
      inb_S1024x2304_S1024x1024_0_0).toLoadRect (harg20.unread xs9) (ix2 d n) = t.WI d n :=
  (readAt2 _ _ (wi G) _ d n).trans (by simp)

section attention

include H G

theorem q_agree : Agrees (kernelRun0_B.sl.HS1_1 c arg2 harg2 arg8 harg8 arg20 harg20 x0 x6 xs9)
    fun y => t.buf.Q (y 0) (y 1) :=
  .cons2 (fun r n => (pay39_apply (H.holds _ _) (wi_right G) r n).trans (by simp)) (.nil _)

theorem q (y) : View.canon (kernelRun0_B.sl.HS1_1 c arg2 harg2 arg8 harg8 arg20 harg20 x0 x6 xs9) y
    = t.buf.Q (y 0) (y 1) :=
  (q_agree H G).canon (View.cover_of_tiledBy _ ![1024, 512] (by sl_kernel_rfl) y)

theorem ag_agree : Agrees (kernelRun0_B.sl.HS4_1 c arg2 harg2 arg8 harg8 arg20 harg20 x0 x6 xs9)
    fun y => t.buf.AG (y 0) (y 1) :=
  .cons2 (fun r n => (pay42_apply (H.holds _ _) (wi_right G) r n).trans (by simp)) (.nil _)

theorem ag (y) : View.canon (kernelRun0_B.sl.HS4_1 c arg2 harg2 arg8 harg8 arg20 harg20 x0 x6 xs9) y
    = t.buf.AG (y 0) (y 1) :=
  (ag_agree H G).canon (View.cover_of_tiledBy _ ![1024, 512] (by sl_kernel_rfl) y)

theorem keys_agree : Agrees (kernelRun0_B.sl.HS2_2 c arg2 harg2 arg8 harg8 arg20 harg20 x0 x6 xs9)
    fun y => t.buf.K (y 0) (y 1) (y 2) :=
  .cons3 (fun i r n => by
      rw [Fin.fin_one_eq_zero i]; exact (highKeys_apply (H.holds _ _) (wi_right G) r n).trans (by simp))
    (.cons3 (fun i r n => by
      rw [Fin.fin_one_eq_zero i]; exact (lowKeys_apply (H.holds _ _) (wi_right G) r n).trans (by simp)) (.nil _))

theorem values_agree : Agrees (kernelRun0_B.sl.HS3_1 c arg2 harg2 arg8 harg8 arg20 harg20 x0 x6 xs9)
    fun y => t.buf.V (y 0) (y 1) :=
  .cons2 (fun l r => (valueRows_apply (H.holds _ _) (wi_right G) l r).trans (by simp)) (.nil _)

theorem input_agree : Agrees (kernelRun0_B.sl.HS0_1 c arg2 harg2 arg8 harg8 arg20 harg20 x0 x6 xs9)
    fun y => t.U (y 0) (y 1) :=
  .cons2 (fun r n => (poolInput_apply (H.holds _ _) (wi_left G) r n).trans (by simp)) (.nil _)

theorem gate_agree : Agrees (kernelRun0_B.sl.HS5_1 c arg2 harg2 arg8 harg8 arg20 harg20 x0 x6 xs9)
    fun y => t.PG (y 0) (y 1) :=
  .cons2 (fun r n => (poolGate_apply (H.holds _ _) (wi_left G) r n).trans (by simp [Tile.PG])) (.nil _)

theorem gate (y) : View.canon (kernelRun0_B.sl.HS5_1 c arg2 harg2 arg8 harg8 arg20 harg20 x0 x6 xs9) y
    = t.PG (y 0) (y 1) :=
  (gate_agree H G).canon (View.cover_of_tiledBy _ ![1024, 512] (by sl_kernel_rfl) y)

end attention

section blocks

include H G

theorem sink (j : Fin 8) (inb) (o) : View.readAt (Elt Ideal) arg6.view
    (Rect.unit (s := S2x8) ![1, j] S1x1.size inb).toLoadRect (harg6.unread x4) o = t.SK j :=
  readCell (Val := Elt Ideal) (S := t.SK) arg6.view _ x4 (harg6.read_unread _) H.x4 inb o

theorem sinks0 (j : Fin 256) : kernelRun0_B.sl.r_11 (F := Ideal) c arg6 harg6 x4 (ix2 0 j) = t.buf.SK 0 j :=
  sinks_low_of (sink H G 0 _ _) (sink H G 1 _ _) (sink H G 2 _ _) (sink H G 3 _ _) j

theorem sinks1 (j : Fin 256) : kernelRun0_B.sl.r_15 (F := Ideal) c arg6 harg6 x4 (ix2 0 j) = t.buf.SK 1 j :=
  sinks_high_of (sink H G 4 _ _) (sink H G 5 _ _) (sink H G 6 _ _) (sink H G 7 _ _) j

theorem keys_reach (y : S2x1152x128.Idx) (hy : 128 ≤ (y 1 : ℕ)) :
    ∃ p ∈ kernelRun0_B.sl.HS2_2 (F := Ideal) c arg2 harg2 arg8 harg8 arg20 harg20 x0 x6 xs9, y ∈ p.1.set := by
  have h1 : (y 1 : ℕ) < 1152 := (y 1).isLt
  have h2 : (y 2 : ℕ) < 128 := (y 2).isLt
  have h0 : (y 0 : ℕ) < 2 := (y 0).isLt
  by_cases h : (y 0 : ℕ) = 1
  · exact reach3 y (by omega) (by omega) (by omega)
  · exact reach_tail (reach3 y (by omega) (by omega) (by omega))

theorem values_reach (y : S128x1152.Idx) (hy : 128 ≤ (y 1 : ℕ)) :
    ∃ p ∈ kernelRun0_B.sl.HS3_1 (F := Ideal) c arg2 harg2 arg8 harg8 arg20 harg20 x0 x6 xs9, y ∈ p.1.set := by
  have h1 : (y 1 : ℕ) < 1152 := (y 1).isLt
  have h0 : (y 0 : ℕ) < 128 := (y 0).isLt
  exact reach2 y (by omega) (by omega)

theorem input_reach (y : S1040x512.Idx) (hy : 16 ≤ (y 0 : ℕ)) :
    ∃ p ∈ kernelRun0_B.sl.HS0_1 (F := Ideal) c arg2 harg2 arg8 harg8 arg20 harg20 x0 x6 xs9, y ∈ p.1.set := by
  have h1 : (y 1 : ℕ) < 512 := (y 1).isLt
  have h0 : (y 0 : ℕ) < 1040 := (y 0).isLt
  exact reach2 y (by omega) (by omega)

theorem keys (y : S2x1152x128.Idx) (hy : 128 ≤ (y 1 : ℕ)) :
    View.canon (kernelRun0_B.sl.HS2_2 c arg2 harg2 arg8 harg8 arg20 harg20 x0 x6 xs9) y = t.buf.K (y 0) (y 1) (y 2) :=
  (keys_agree H G).canon (keys_reach H G y hy)

theorem values (y : S128x1152.Idx) (hy : 128 ≤ (y 1 : ℕ)) :
    View.canon (kernelRun0_B.sl.HS3_1 c arg2 harg2 arg8 harg8 arg20 harg20 x0 x6 xs9) y = t.buf.V (y 0) (y 1) :=
  (values_agree H G).canon (values_reach H G y hy)

include W

theorem keys_all (y) : arg13.view.read (Elt Ideal) (arg13.view.writes (Elt Ideal) (harg13.unread xs2)
    (kernelRun0_B.sl.HS2_2 c arg2 harg2 arg8 harg8 arg20 harg20 x0 x6 xs9)) y = t.buf.K (y 0) (y 1) (y 2) := by
  refine (keys_agree H G).writes _ _ ?_
  by_cases hy : 128 ≤ (y 1 : ℕ)
  · exact .inl (keys_reach H G y hy)
  · refine .inr ?_
    obtain ⟨i, r, l, rfl⟩ : ∃ (i : Fin 2) (r : Fin 1152) (l : Fin 128), y = ix3 i r l :=
      ⟨y 0, y 1, y 2, by funext i; fin_cases i <;> rfl⟩
    have hr : (r : ℕ) < 128 := Nat.lt_of_not_le hy
    rw [harg13.read_unread, W.k i r l hr]
    exact (if_pos hr).symm

theorem values_all (y) : arg14.view.read (Elt Ideal) (arg14.view.writes (Elt Ideal) (harg14.unread xs3)
    (kernelRun0_B.sl.HS3_1 c arg2 harg2 arg8 harg8 arg20 harg20 x0 x6 xs9)) y = t.buf.V (y 0) (y 1) := by
  refine (values_agree H G).writes _ _ ?_
  by_cases hy : 128 ≤ (y 1 : ℕ)
  · exact .inl (values_reach H G y hy)
  · refine .inr ?_
    obtain ⟨l, r, rfl⟩ : ∃ (l : Fin 128) (r : Fin 1152), y = ix2 l r := ⟨y 0, y 1, by funext i; fin_cases i <;> rfl⟩
    have hr : (r : ℕ) < 128 := Nat.lt_of_not_le hy
    rw [harg14.read_unread, W.v l r hr]
    exact (if_pos hr).symm

theorem input_all (y) : arg11.view.read (Elt Ideal) (arg11.view.writes (Elt Ideal) (harg11.unread xs0)
    (kernelRun0_B.sl.HS0_1 c arg2 harg2 arg8 harg8 arg20 harg20 x0 x6 xs9)) y = t.U (y 0) (y 1) := by
  refine (input_agree H G).writes _ _ ?_
  by_cases hy : 16 ≤ (y 0 : ℕ)
  · exact .inl (input_reach H G y hy)
  · refine .inr ?_
    obtain ⟨p, n, rfl⟩ : ∃ (p : Fin 1040) (n : Fin 512), y = ix2 p n := ⟨y 0, y 1, by funext i; fin_cases i <;> rfl⟩
    have hp : (p : ℕ) < 16 := Nat.lt_of_not_le hy
    rw [harg11.read_unread, W.u p n hp]
    exact (if_pos hp).symm

section pool

variable (hT : t.T = (i 1 : ℕ)) (hi : (i 1 : ℕ) < 2)

include hT hi

theorem count (r : Fin 1024) (n : Fin 128) :
    kernelRun0_B.sl.r_10 (F := Ideal) i (ix2 r n) = ((1024 * t.T + r + 1 : ℕ) : EReal) :=
  pay47_apply (i 1 : ℕ) hi hT r n

theorem pooled_agree : Agrees (kernelRun0_B.sl.HS6_4 c i arg2 harg2 arg8 harg8 arg11 harg11 arg20 harg20 x0 x6 xs0 xs9)
    fun y => t.pooled (y 0) (y 1) := by
  have hu {b : ℕ} (inb) (r : Fin 1040) (n : Fin 128) := readAt2 (Val := Elt Ideal) (S := t.U) (b := b) arg11.view
    (arg11.view.writes (Elt Ideal) (harg11.unread xs0) (kernelRun0_B.sl.HS0_1 c arg2 harg2 arg8 harg8 arg20 harg20 x0 x6 xs9))
    (input_all H G W) (a := 0) (m := 1040) (n := 128) inb r n
  exact .cons2 (pool_piece (g := 3) (hu _) (count H G W hT hi) pool_widths.2.2.2 (double_sum (g := 3) (hu _)).2.2.2)
    (.cons2 (pool_piece (g := 2) (hu _) (count H G W hT hi) pool_widths.2.2.1 fun n r h =>
        (double_sum (g := 2) (hu _)).2.2.1 n r (by omega))
    (.cons2 (pool_piece (g := 1) (hu _) (count H G W hT hi) pool_widths.2.1 fun n r h =>
        (double_sum (g := 1) (hu _)).2.1 n r (by omega))
    (.cons2 (pool_piece (g := 0) (hu _) (count H G W hT hi) pool_widths.1 fun n r h =>
        (double_sum (g := 0) (hu _)).1 n r (by omega)) (.nil _))))

theorem pooled (y) :
    View.canon (kernelRun0_B.sl.HS6_4 c i arg2 harg2 arg8 harg8 arg11 harg11 arg20 harg20 x0 x6 xs0 xs9) y
      = t.pooled (y 0) (y 1) :=
  (pooled_agree H G W hT hi).canon (View.cover_of_tiledBy _ ![1024, 128] (by sl_kernel_rfl) y)

end pool

section mix

omit W in
theorem bias {z : ℕ} {off : Fin 3 → ℕ} (ho : off = ![z, 0, 0]) (inb) (r : Fin 384) (j : Fin 256) :
    shapeCast S384x256 (View.readAt (Elt Ideal) arg19.view (Rect.unit (s := S3x384x256) off S1x384x256.size inb).toLoadRect
      (harg19.unread xs8)) shapeCasts_S1x384x256_S384x256 (ix2 r j) = t.BI z r j := by
  subst ho
  have e (y) : arg19.view.read (Elt Ideal) (harg19.unread xs8) y = t.BI (y 0) (y 1) (y 2) :=
    read_whole3 (Val := Elt Ideal) (S := t.BI) arg19.view _ xs8 (harg19.read_unread _) G.bias y
  refine bias_apply _ (fun r j => t.BI z r j) (fun r j => ?_) r j
  refine (readAt3 (Val := Elt Ideal) (S := t.BI) arg19.view _ e inb 0 r j).trans ?_
  simp

variable (hT : t.T = (i 1 : ℕ)) (hi : (i 1 : ℕ) = 1)

include hT hi

theorem mix_agree : Agrees (kernelRun0_B.sl.HS7_66 c i arg2 harg2 arg5 harg5 arg6 harg6 arg8 harg8 arg11 harg11 arg12 arg13 harg13 arg14 harg14 arg15 arg16 arg17 arg19 harg19 arg20 harg20 arg22 harg22 x0 x3 x4 x6 xs0 xs2 xs3 xs8 xs9 xs11)
    fun y => t.mix (y 0) (y 1) := by
  have R {a c0 : ℕ} (ha : 128 ≤ a) (hc : 128 ≤ c0) (i0 i1 i2 i3 i4 i5 i6 i7 i8) :
      Reads t.buf (t.BI (t.variant (a / 64))) a c0
        (arg13.view.readCov (kernelRun0_B.sl.HS2_2 c arg2 harg2 arg8 harg8 arg20 harg20 x0 x6 xs9)
          (Rect.unit (s := S2x1152x128) ![0, a, 0] S1x192x128.size i0).toLoadRect)
        (arg13.view.readCov (kernelRun0_B.sl.HS2_2 c arg2 harg2 arg8 harg8 arg20 harg20 x0 x6 xs9)
          (Rect.unit (s := S2x1152x128) ![1, a, 0] S1x192x128.size i1).toLoadRect)
        (arg12.view.readCov (kernelRun0_B.sl.HS1_1 c arg2 harg2 arg8 harg8 arg20 harg20 x0 x6 xs9)
          (Rect.unit (s := S1024x512) ![a, 0] S64x128.size i2).toLoadRect)
        (arg12.view.readCov (kernelRun0_B.sl.HS1_1 c arg2 harg2 arg8 harg8 arg20 harg20 x0 x6 xs9)
          (Rect.unit (s := S1024x512) ![a, 128] S64x128.size i3).toLoadRect)
        (arg12.view.readCov (kernelRun0_B.sl.HS1_1 c arg2 harg2 arg8 harg8 arg20 harg20 x0 x6 xs9)
          (Rect.unit (s := S1024x512) ![a, 256] S64x128.size i4).toLoadRect)
        (arg12.view.readCov (kernelRun0_B.sl.HS1_1 c arg2 harg2 arg8 harg8 arg20 harg20 x0 x6 xs9)
          (Rect.unit (s := S1024x512) ![a, 384] S64x128.size i5).toLoadRect)
        (shapeCast S384x256 (View.readAt (Elt Ideal) arg19.view (Rect.unit (s := S3x384x256) ![0, 0, 0] S1x384x256.size
          i6).toLoadRect (harg19.unread xs8)) shapeCasts_S1x384x256_S384x256)
        (kernelRun0_B.sl.r_11 c arg6 harg6 x4) (kernelRun0_B.sl.r_15 c arg6 harg6 x4)
        (arg14.view.readCov (kernelRun0_B.sl.HS3_1 c arg2 harg2 arg8 harg8 arg20 harg20 x0 x6 xs9)
          (Rect.unit (s := S128x1152) ![0, c0] S64x256.size i7).toLoadRect)
        (arg14.view.readCov (kernelRun0_B.sl.HS3_1 c arg2 harg2 arg8 harg8 arg20 harg20 x0 x6 xs9)
          (Rect.unit (s := S128x1152) ![64, c0] S64x256.size i8).toLoadRect) :=
    .of_loads (readCov3 _ _ 128 (keys H G) ha _ 0) (readCov3 _ _ 128 (keys H G) ha _ 0)
      (readCov2 _ _ 0 (fun y _ => q H G y) (Nat.zero_le _) _) (readCov2 _ _ 0 (fun y _ => q H G y) (Nat.zero_le _) _)
      (readCov2 _ _ 0 (fun y _ => q H G y) (Nat.zero_le _) _) (readCov2 _ _ 0 (fun y _ => q H G y) (Nat.zero_le _) _)
      (by rw [variant_two t ha]; exact bias H G rfl _) (sinks0 H G) (sinks1 H G)
      (readCov2 _ _ 128 (values H G) hc _) (readCov2 _ _ 128 (values H G) hc _)
  have A {a b : ℕ} (i0) := readCov2 (Val := Elt Ideal) (S := t.buf.AG) (a := a) (b := b) (m := 64) (n := 128) arg15.view
    (kernelRun0_B.sl.HS4_1 c arg2 harg2 arg8 harg8 arg20 harg20 x0 x6 xs9) 0 (fun y _ => ag H G y) (Nat.zero_le _) i0
  have Q {a b : ℕ} (i0) := readCov2 (Val := Elt Ideal) (S := t.buf.Q) (a := a) (b := b) (m := 64) (n := 128) arg12.view
    (kernelRun0_B.sl.HS1_1 c arg2 harg2 arg8 harg8 arg20 harg20 x0 x6 xs9) 0 (fun y _ => q H G y) (Nat.zero_le _) i0
  have P {b : ℕ} (k : ℕ) (i0) (r : Fin 1024) (n : Fin 256) : arg17.view.readCov (kernelRun0_B.sl.HS6_4 c i arg2 harg2 arg8
      harg8 arg11 harg11 arg20 harg20 x0 x6 xs0 xs9) (Rect.unit (s := S1024x512) ![0, b] S1024x256.size i0).toLoadRect
      (ix2 r n) = t.pooled r (b + n) :=
    (readCov2 (Val := Elt Ideal) (S := t.pooled) arg17.view _ 0 (fun y _ => pooled H G W hT (by omega) y) (Nat.zero_le _)
      i0 r n).trans (by rw [Nat.zero_add])
  have PG {b : ℕ} (k : ℕ) (i0) (r : Fin 1024) (n : Fin 256) : arg16.view.readCov (kernelRun0_B.sl.HS5_1 c arg2 harg2 arg8
      harg8 arg20 harg20 x0 x6 xs9) (Rect.unit (s := S1024x512) ![0, b] S1024x256.size i0).toLoadRect
      (ix2 r n) = swish (t.pj r (512 + (b + n))) :=
    (readCov2 (Val := Elt Ideal) (S := t.PG) arg16.view _ 0 (fun y _ => gate H G y) (Nat.zero_le _) i0 r n).trans
      (by rw [Nat.zero_add]; rfl)
  have PS {b : ℕ} (k : ℕ) (i0) (n : Fin 256) := readRow (Val := Elt Ideal) (S := t.PS) (b := b) arg5.view _ x3
    (harg5.read_unread _) H.x3 i0 n
  have PW (z : ℕ) (i0) (a b : Fin 256) : View.readAt (Elt Ideal) arg22.view (Rect.unit (s := S2x256x256) ![z, 0, 0]
      S1x256x256.size i0).toLoadRect (harg22.unread xs11) (ix3 0 a b) = t.PW z a b := by
    have e (y) : arg22.view.read (Elt Ideal) (harg22.unread xs11) y = t.PW (y 0) (y 1) (y 2) :=
      read_whole3 (Val := Elt Ideal) (S := t.PW) arg22.view _ xs11 (harg22.read_unread _) G.pw y
    refine (readAt3 (Val := Elt Ideal) (S := t.PW) arg22.view _ e i0 0 a b).trans ?_
    simp
  refine .above (R (by omega) (by omega) _ _ _ _ _ _ _ _ _) rfl (A _) (A _) (A _) (A _) rfl ?_
  refine .below (R (by omega) (by omega) _ _ _ _ _ _ _ _ _) rfl (A _) (A _) (A _) (A _) rfl ?_
  refine .above (R (by omega) (by omega) _ _ _ _ _ _ _ _ _) rfl (A _) (A _) (A _) (A _) rfl ?_
  refine .below (R (by omega) (by omega) _ _ _ _ _ _ _ _ _) rfl (A _) (A _) (A _) (A _) rfl ?_
  refine .above (R (by omega) (by omega) _ _ _ _ _ _ _ _ _) rfl (A _) (A _) (A _) (A _) rfl ?_
  refine .below (R (by omega) (by omega) _ _ _ _ _ _ _ _ _) rfl (A _) (A _) (A _) (A _) rfl ?_
  refine .above (R (by omega) (by omega) _ _ _ _ _ _ _ _ _) rfl (A _) (A _) (A _) (A _) rfl ?_
  refine .below (R (by omega) (by omega) _ _ _ _ _ _ _ _ _) rfl (A _) (A _) (A _) (A _) rfl ?_
  refine .cons2 (fun r n => (poolMix_apply _ _ _ _ 1 (by omega) (P 1 _) (PW 1 _) (PS 1 _) (PG 1 _) r n).trans
    (by simp)) ?_
  refine .cons2 (fun r n => (poolMix_apply _ _ _ _ 0 (by omega) (P 0 _) (PW 0 _) (PS 0 _) (PG 0 _) r n).trans
    (by simp)) ?_
  refine .above (R (by omega) (by omega) _ _ _ _ _ _ _ _ _) rfl (A _) (A _) (A _) (A _) rfl ?_
  refine .below (R (by omega) (by omega) _ _ _ _ _ _ _ _ _) rfl (A _) (A _) (A _) (A _) rfl ?_
  refine .above (R (by omega) (by omega) _ _ _ _ _ _ _ _ _) rfl (A _) (A _) (A _) (A _) rfl ?_
  refine .below (R (by omega) (by omega) _ _ _ _ _ _ _ _ _) rfl (A _) (A _) (A _) (A _) rfl ?_
  refine .above (R (by omega) (by omega) _ _ _ _ _ _ _ _ _) rfl (A _) (A _) (A _) (A _) rfl ?_
  refine .below (R (by omega) (by omega) _ _ _ _ _ _ _ _ _) rfl (A _) (A _) (A _) (A _) rfl ?_
  refine .above (c0 := 0) (.of_loads (readAt3 _ _ (keys_all H G W) _ 0) (readAt3 _ _ (keys_all H G W) _ 0) (Q _) (Q _) (Q _)
    (Q _) (by rw [variant_one t (hT.trans hi)]; exact bias H G (off_zero hi _) _) (sinks0 H G) (sinks1 H G)
    (readAt2 _ _ (values_all H G W) _) (readAt2 _ _ (values_all H G W) _)) rfl (A _) (A _) (A _) (A _) rfl ?_
  refine .below (c0 := 0) (.of_loads (readAt3 _ _ (keys_all H G W) _ 0) (readAt3 _ _ (keys_all H G W) _ 0) (Q _) (Q _) (Q _)
    (Q _) (by rw [variant_one t (hT.trans hi)]; exact bias H G (off_zero hi _) _) (sinks0 H G) (sinks1 H G)
    (readAt2 _ _ (values_all H G W) _) (readAt2 _ _ (values_all H G W) _)) rfl (A _) (A _) (A _) (A _) rfl (.nil _)

theorem mix (y) : View.canon (kernelRun0_B.sl.HS7_66 c i arg2 harg2 arg5 harg5 arg6 harg6 arg8 harg8 arg11 harg11 arg12 arg13 harg13 arg14 harg14 arg15 arg16 arg17 arg19 harg19 arg20 harg20 arg22 harg22 x0 x3 x4 x6 xs0 xs2 xs3 xs8 xs9 xs11) y
    = t.mix (y 0) (y 1) :=
  (mix_agree H G W hT hi).canon (View.cover_of_tiledBy _ ![64, 128] (by sl_kernel_rfl) y)

end mix

end blocks

section result

variable {arg3 : Memref sig .tc .vmem S1x1024x2304 .f32} {harg3 : arg3.IsWhole}
  {arg4 : Memref sig .tc .vmem S1x4x128x128 .f32} {harg4 : arg4.IsWhole}
  {arg7 arg10 : Memref sig .tc .vmem S1x1024x1024 .f32} {harg7 : arg7.IsWhole} {harg10 : arg10.IsWhole}
  {arg9 : Memref sig .tc .vmem S2x1024 .f32} {harg9 : arg9.IsWhole} {harg12 : arg12.IsWhole}
  {harg15 : arg15.IsWhole} {harg16 : arg16.IsWhole} {harg17 : arg17.IsWhole}
  {arg18 arg21 : Memref sig .tc .vmem S1024x1024 .bf16} {harg18 : arg18.IsWhole} {harg21 : arg21.IsWhole}
  {hc0 : ¬cond0_0 i} {hc1 : ¬cond0_1 i} {x1 : Vec Ideal S1x1024x2304 .f32} {x2 : Vec Ideal S1x4x128x128 .f32}
  {x5 : Vec Ideal S1x1024x1024 .f32}
  (hT : t.T = (i 1 : ℕ)) (hi : (i 1 : ℕ) = 1)

include H G W hT hi

theorem out_agree : Agrees (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs2 xs3 xs8 xs9 xs10 xs11).1 fun y => t.out (y 1) (y 2) := by
  have M {a : ℕ} (i0) := readCov2 (Val := Elt Ideal) (S := t.mix) (a := a) (b := 0) (m := 512) (n := 1024) arg18.view
    (kernelRun0_B.sl.HS7_66 c i arg2 harg2 arg5 harg5 arg6 harg6 arg8 harg8 arg11 harg11 arg12 arg13 harg13 arg14 harg14 arg15 arg16 arg17 arg19 harg19 arg20 harg20 arg22 harg22 x0 x3 x4 x6 xs0 xs2 xs3 xs8 xs9 xs11) 0 (fun y _ => mix H G W hT hi y) (Nat.zero_le _) i0
  have O (i0) (n d : Fin 1024) := (readAt2 (Val := Elt Ideal) (S := t.WO) (m := 1024) (n := 1024) (a := 0) (b := 0) arg21.view (harg21.unread xs10)
    (read_whole2 (Val := Elt Ideal) (S := t.WO) arg21.view _ xs10 (harg21.read_unread _) G.wo) i0 n d).trans
      (by rw [Nat.zero_add, Nat.zero_add])
  have X {a : ℕ} (i0) (r : Fin 512) (d : Fin 1024) := (readAt3 (Val := Elt Ideal) (S := fun _ r d => t.X r d) (k := 1) (m := 512) (n := 1024) (z := 0) (a := a) (b := 0) arg2.view (harg2.unread x0)
    (read_whole3 (Val := Elt Ideal) (S := fun _ r d => t.X r d) arg2.view _ x0 (harg2.read_unread _) H.x0) i0 0 r d).trans
      (by rw [Nat.zero_add])
  have P (i0) (d : Fin 1024) := (readRow (Val := Elt Ideal) (S := t.GO) (n := 1024) arg9.view _ x7 (harg9.read_unread _) H.x7 i0 d).trans
      (by rw [Nat.zero_add])
  have F {r0 : ℕ} (i0 i1 i2 i3) (r : Fin 512) (d : Fin 1024) := pay1_apply _ _ _ _ r0
    (fun r n => (M (a := r0) i0 r n).trans (by rw [Nat.zero_add])) (O i1) (X (a := r0) i2) (P i3) r d
  refine .cons3 (Val := Elt Ideal) (e := .f32) (S := fun _ r d => t.out r d) (fun i r d => ?_) ?_
  · rw [Subsingleton.elim i 0]
    exact (F (r0 := 512) _ _ _ _ r d).trans (by rw [Nat.zero_add (d : ℕ)])
  refine .cons3 (Val := Elt Ideal) (e := .f32) (S := fun _ r d => t.out r d) (fun i r d => ?_) (.nil _)
  rw [Subsingleton.elim i 0]
  exact (F (r0 := 0) _ _ _ _ r d).trans (by rw [Nat.zero_add (d : ℕ)])

theorem out (r d : Fin 1024) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs2 xs3 xs8 xs9 xs10 xs11 (ix3 0 r d) = t.out r d :=
  (out_agree H G W hT hi).writes VO0_8 VO0_8.junk (.inl (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs2 xs3 xs8 xs9 xs10 xs11 (ix3 0 r d)))

end result

end Cert.Layer.B

end
-- ==== Proof.CaseC.lean ====
/-
  The first tile of a batch: what its stores leave, from the tables that the first point made.
-/
module

public import proofs.«01_k».proof.Proof.Stored

@[expose] public section

set_option maxRecDepth 16384

noncomputable section

namespace Cert.Layer.C

open Idealize.ShloMosaic Idealize.ShloMosaic.TcCoe
open Cert.KernelIdeal Cert.KernelIdeal.Gen

variable {t : Tile} {c : Dev nD} {i : grid0.Coords}
  {arg2 : Memref sig .tc .vmem S1x1024x1024 .f32} {harg2 : arg2.IsWhole}
  {arg5 : Memref sig .tc .vmem S2x512 .f32} {harg5 : arg5.IsWhole}
  {arg6 : Memref sig .tc .smem S2x8 .f32} {harg6 : arg6.IsWhole}
  {arg8 : Memref sig .tc .vmem S2x1024 .f32} {harg8 : arg8.IsWhole}
  {arg11 : Memref sig .tc .vmem S1040x512 .f32} {harg11 : arg11.IsWhole}
  {arg12 : Memref sig .tc .vmem S1024x512 .bf16}
  {arg13 : Memref sig .tc .vmem S2x1152x128 .bf16} {harg13 : arg13.IsWhole}
  {arg14 : Memref sig .tc .vmem S128x1152 .bf16} {harg14 : arg14.IsWhole}
  {arg15 arg16 : Memref sig .tc .vmem S1024x512 .f32} {arg17 : Memref sig .tc .vmem S1024x512 .bf16}
  {arg19 : Memref sig .tc .vmem S3x384x256 .f32} {harg19 : arg19.IsWhole}
  {arg20 : Memref sig .tc .vmem S1024x2304 .bf16} {harg20 : arg20.IsWhole}
  {arg22 : Memref sig .tc .vmem S2x256x256 .bf16} {harg22 : arg22.IsWhole}
  {x0 : Vec Ideal S1x1024x1024 .f32} {x3 : Vec Ideal S2x512 .f32} {x4 : Vec Ideal S2x8 .f32}
  {x6 x7 : Vec Ideal S2x1024 .f32} {xs0 : Vec Ideal S1040x512 .f32} {xs2 : Vec Ideal S2x1152x128 .bf16}
  {xs3 : Vec Ideal S128x1152 .bf16} {xs8 : Vec Ideal S3x384x256 .f32} {xs9 : Vec Ideal S1024x2304 .bf16}
  {xs10 : Vec Ideal S1024x1024 .bf16} {xs11 : Vec Ideal S2x256x256 .bf16}
  (H : Inputs t x0 x3 x4 x6 x7) (G : Tables t xs8 xs9 xs10 xs11) (Z : t.Fresh)

/-- The input weights, by coordinates. -/
theorem wi (G : Tables t xs8 xs9 xs10 xs11) (y) : arg20.view.read (Elt Ideal) (harg20.unread xs9) y = t.WI (y 0) (y 1) :=
  read_whole2 (Val := Elt Ideal) (S := t.WI) arg20.view _ xs9 (harg20.read_unread _) G.wi y

/-- The last 1280 columns of the input weights. -/
theorem wi_right (G : Tables t xs8 xs9 xs10 xs11) (d : Fin 1024) (n : Fin 1280) :
    View.readAt (Elt Ideal) arg20.view (Rect.unit (s := S1024x2304) ![0, 1024] S1024x1280.size
      inb_S1024x2304_S1024x1280_0_1024).toLoadRect (harg20.unread xs9) (ix2 d n) = t.WI d (1024 + n) :=
  (readAt2 _ _ (wi G) _ d n).trans (by simp)

/-- The first 1024 columns. -/
theorem wi_left (G : Tables t xs8 xs9 xs10 xs11) (d n : Fin 1024) :
    View.readAt (Elt Ideal) arg20.view (Rect.unit (s := S1024x2304) ![0, 0] S1024x1024.size
      inb_S1024x2304_S1024x1024_0_0).toLoadRect (harg20.unread xs9) (ix2 d n) = t.WI d n :=
  (readAt2 _ _ (wi G) _ d n).trans (by simp)

section buffers

include H G Z

theorem q_agree : Agrees (kernelRun0_C.sl.HS1_1 c arg2 harg2 arg8 harg8 arg20 harg20 x0 x6 xs9)
    fun y => t.buf.Q (y 0) (y 1) :=
  .cons2 (fun r n => (pay39_apply (H.holds _ _) (wi_right G) r n).trans (by simp)) (.nil _)

theorem q (y) : View.canon (kernelRun0_C.sl.HS1_1 c arg2 harg2 arg8 harg8 arg20 harg20 x0 x6 xs9) y
    = t.buf.Q (y 0) (y 1) :=
  (q_agree H G Z).canon (View.cover_of_tiledBy _ ![1024, 512] (by sl_kernel_rfl) y)

theorem ag_agree : Agrees (kernelRun0_C.sl.HS4_1 c arg2 harg2 arg8 harg8 arg20 harg20 x0 x6 xs9)
    fun y => t.buf.AG (y 0) (y 1) :=
  .cons2 (fun r n => (pay42_apply (H.holds _ _) (wi_right G) r n).trans (by simp)) (.nil _)

theorem ag (y) : View.canon (kernelRun0_C.sl.HS4_1 c arg2 harg2 arg8 harg8 arg20 harg20 x0 x6 xs9) y
    = t.buf.AG (y 0) (y 1) :=
  (ag_agree H G Z).canon (View.cover_of_tiledBy _ ![1024, 512] (by sl_kernel_rfl) y)

theorem keys_agree : Agrees (kernelRun0_C.sl.HS2_3 c arg2 harg2 arg8 harg8 arg20 harg20 x0 x6 xs9)
    fun y => t.buf.K (y 0) (y 1) (y 2) :=
  .cons3 (fun i r n => by
      rw [Fin.fin_one_eq_zero i]; exact (highKeys_apply (H.holds _ _) (wi_right G) r n).trans (by simp))
    (.cons3 (fun i r n => by
      rw [Fin.fin_one_eq_zero i]; exact (lowKeys_apply (H.holds _ _) (wi_right G) r n).trans (by simp))
    (.cons3 (fresh_k Z) (.nil _)))

theorem keys (y) : View.canon (kernelRun0_C.sl.HS2_3 c arg2 harg2 arg8 harg8 arg20 harg20 x0 x6 xs9) y
    = t.buf.K (y 0) (y 1) (y 2) :=
  (keys_agree H G Z).canon (View.cover_of_tiledBy _ ![1, 128, 128] (by sl_kernel_rfl) y)

theorem values_agree : Agrees (kernelRun0_C.sl.HS3_2 c arg2 harg2 arg8 harg8 arg20 harg20 x0 x6 xs9)
    fun y => t.buf.V (y 0) (y 1) :=
  .cons2 (fun l r => (valueRows_apply (H.holds _ _) (wi_right G) l r).trans (by simp)) (.cons2 (fresh_v Z) (.nil _))

theorem values (y) : View.canon (kernelRun0_C.sl.HS3_2 c arg2 harg2 arg8 harg8 arg20 harg20 x0 x6 xs9) y
    = t.buf.V (y 0) (y 1) :=
  (values_agree H G Z).canon (View.cover_of_tiledBy _ ![128, 128] (by sl_kernel_rfl) y)

theorem input_agree : Agrees (kernelRun0_C.sl.HS0_2 c arg2 harg2 arg8 harg8 arg20 harg20 x0 x6 xs9)
    fun y => t.U (y 0) (y 1) :=
  .cons2 (fun r n => (poolInput_apply (H.holds _ _) (wi_left G) r n).trans (by simp)) (.cons2 (fresh_u Z) (.nil _))

theorem input (y) : View.canon (kernelRun0_C.sl.HS0_2 c arg2 harg2 arg8 harg8 arg20 harg20 x0 x6 xs9) y
    = t.U (y 0) (y 1) :=
  (input_agree H G Z).canon (View.cover_of_tiledBy _ ![16, 512] (by sl_kernel_rfl) y)

theorem gate_agree : Agrees (kernelRun0_C.sl.HS5_1 c arg2 harg2 arg8 harg8 arg20 harg20 x0 x6 xs9)
    fun y => t.PG (y 0) (y 1) :=
  .cons2 (fun r n => (poolGate_apply (H.holds _ _) (wi_left G) r n).trans (by simp [Tile.PG])) (.nil _)

theorem gate (y) : View.canon (kernelRun0_C.sl.HS5_1 c arg2 harg2 arg8 harg8 arg20 harg20 x0 x6 xs9) y
    = t.PG (y 0) (y 1) :=
  (gate_agree H G Z).canon (View.cover_of_tiledBy _ ![1024, 512] (by sl_kernel_rfl) y)

theorem sinks0 (j : Fin 256) : kernelRun0_C.sl.r_11 (F := Ideal) c arg6 harg6 x4 (ix2 0 j) = t.buf.SK 0 j :=
  sinks_low_of (sink_cell H 0 _ _) (sink_cell H 1 _ _) (sink_cell H 2 _ _) (sink_cell H 3 _ _) j

theorem sinks1 (j : Fin 256) : kernelRun0_C.sl.r_15 (F := Ideal) c arg6 harg6 x4 (ix2 0 j) = t.buf.SK 1 j :=
  sinks_high_of (sink_cell H 4 _ _) (sink_cell H 5 _ _) (sink_cell H 6 _ _) (sink_cell H 7 _ _) j

variable (hi : (i 1 : ℕ) = 0)

include hi

theorem count (r : Fin 1024) (n : Fin 128) :
    kernelRun0_C.sl.r_10 (F := Ideal) i (ix2 r n) = ((1024 * t.T + r + 1 : ℕ) : EReal) :=
  pay47_apply (i 1 : ℕ) (by omega) (Z.zero.trans hi.symm) r n

theorem pooled_agree : Agrees (kernelRun0_C.sl.HS6_4 c i arg2 harg2 arg8 harg8 arg11 arg20 harg20 x0 x6 xs9)
    fun y => t.pooled (y 0) (y 1) := by
  have hu {b : ℕ} (inb) (r : Fin 1040) (n : Fin 128) := readCov2 (Val := Elt Ideal) (S := t.U) (b := b) arg11.view
    (kernelRun0_C.sl.HS0_2 c arg2 harg2 arg8 harg8 arg20 harg20 x0 x6 xs9) 0 (fun y _ => input H G Z y) (Nat.zero_le _) (a := 0) (m := 1040) (n := 128) inb r n
  exact .cons2 (pool_piece (g := 3) (hu _) (count H G Z hi) pool_widths.2.2.2 (double_sum (g := 3) (hu _)).2.2.2)
    (.cons2 (pool_piece (g := 2) (hu _) (count H G Z hi) pool_widths.2.2.1 fun n r h =>
        (double_sum (g := 2) (hu _)).2.2.1 n r (by omega))
    (.cons2 (pool_piece (g := 1) (hu _) (count H G Z hi) pool_widths.2.1 fun n r h =>
        (double_sum (g := 1) (hu _)).2.1 n r (by omega))
    (.cons2 (pool_piece (g := 0) (hu _) (count H G Z hi) pool_widths.1 fun n r h =>
        (double_sum (g := 0) (hu _)).1 n r (by omega)) (.nil _))))

theorem pooled (y) : View.canon (kernelRun0_C.sl.HS6_4 c i arg2 harg2 arg8 harg8 arg11 arg20 harg20 x0 x6 xs9) y
      = t.pooled (y 0) (y 1) :=
  (pooled_agree H G Z hi).canon (View.cover_of_tiledBy _ ![1024, 128] (by sl_kernel_rfl) y)

theorem stored : Stored t (kernelRun0_C.sl.HS1_1 c arg2 harg2 arg8 harg8 arg20 harg20 x0 x6 xs9)
    (kernelRun0_C.sl.HS2_3 c arg2 harg2 arg8 harg8 arg20 harg20 x0 x6 xs9) (kernelRun0_C.sl.HS3_2 c arg2 harg2 arg8 harg8 arg20 harg20 x0 x6 xs9)
    (kernelRun0_C.sl.HS4_1 c arg2 harg2 arg8 harg8 arg20 harg20 x0 x6 xs9) (kernelRun0_C.sl.HS5_1 c arg2 harg2 arg8 harg8 arg20 harg20 x0 x6 xs9)
    (kernelRun0_C.sl.HS6_4 c i arg2 harg2 arg8 harg8 arg11 arg20 harg20 x0 x6 xs9) :=
  ⟨q H G Z, keys H G Z, values H G Z, ag H G Z, gate H G Z, pooled H G Z hi⟩

end buffers

section mix

include G

theorem bias {z : ℕ} {off : Fin 3 → ℕ} (ho : off = ![z, 0, 0]) (inb) (r : Fin 384) (j : Fin 256) :
    shapeCast S384x256 (View.readAt (Elt Ideal) arg19.view (Rect.unit (s := S3x384x256) off S1x384x256.size inb).toLoadRect
      (harg19.unread xs8)) shapeCasts_S1x384x256_S384x256 (ix2 r j) = t.BI z r j := by
  subst ho
  have e (y) : arg19.view.read (Elt Ideal) (harg19.unread xs8) y = t.BI (y 0) (y 1) (y 2) :=
    read_whole3 (Val := Elt Ideal) (S := t.BI) arg19.view _ xs8 (harg19.read_unread _) G.bias y
  refine bias_apply _ (fun r j => t.BI z r j) (fun r j => ?_) r j
  refine (readAt3 (Val := Elt Ideal) (S := t.BI) arg19.view _ e inb 0 r j).trans ?_
  simp

theorem weights {z : ℕ} (i0) (a b : Fin 256) : View.readAt (Elt Ideal) arg22.view (Rect.unit (s := S2x256x256) ![z, 0, 0]
      S1x256x256.size i0).toLoadRect (harg22.unread xs11) (ix3 0 a b) = t.PW z a b :=
  (readAt3 (Val := Elt Ideal) (S := t.PW) (k := 1) (m := 256) (n := 256) arg22.view (harg22.unread xs11)
    (read_whole3 (Val := Elt Ideal) (S := t.PW) arg22.view _ xs11 (harg22.read_unread _) G.pw) i0 0 a b).trans (by simp)

variable (hi : (i 1 : ℕ) = 0)

include H Z hi

theorem mix_agree : Agrees (kernelRun0_C.sl.HS7_66 c i arg2 harg2 arg5 harg5 arg6 harg6 arg8 harg8 arg11 arg12 arg13 arg14 arg15 arg16 arg17 arg19 harg19 arg20 harg20 arg22 harg22 x0 x3 x4 x6 xs8 xs9 xs11)
    fun y => t.mix (y 0) (y 1) := by
  have F := stored (c := c) (arg2 := arg2) (harg2 := harg2) (arg8 := arg8) (harg8 := harg8) (arg11 := arg11)
    (arg20 := arg20) (harg20 := harg20) H G Z hi
  have V {a : ℕ} (h : 128 ≤ a) (i0) (r : Fin 384) (j : Fin 256) := (bias G (arg19 := arg19) (harg19 := harg19)
    (off := ![0, 0, 0]) rfl i0 r j).trans (congrArg (fun f => t.BI f r j) (variant_two t h).symm)
  have B (a : ℕ) {off : Fin 3 → ℕ} (h : off = ![2 - a / 64, 0, 0]) (i0) (r : Fin 384) (j : Fin 256) := (bias G (arg19 := arg19)
    (harg19 := harg19) h i0 r j).trans (congrArg (fun f => t.BI f r j) (Z.variant (a / 64)).symm)
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .cons2 (F.pool (i := 1) (by omega) rfl (weights G _) (scale_row H _) _ _) ?_
  refine .cons2 (F.pool (i := 0) (by omega) rfl (weights G _) (scale_row H _) _ _) ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (V (by omega) _) (sinks0 H G Z) (sinks1 H G Z) _ _ _ _ _ _ _ _) rfl (F.gate _) (F.gate _) (F.gate _) (F.gate _) rfl ?_
  refine .below (F.reads (V (by omega) _) (sinks0 H G Z) (sinks1 H G Z) _ _ _ _ _ _ _ _) rfl (F.gate _) (F.gate _) (F.gate _) (F.gate _) rfl ?_
  refine .above (F.reads (B 64 (off_first hi).2 _) (sinks0 H G Z) (sinks1 H G Z) _ _ _ _ _ _ _ _) rfl (F.gate _) (F.gate _) (F.gate _) (F.gate _) rfl ?_
  refine .below (F.reads (B 0 (off_first hi).1 _) (sinks0 H G Z) (sinks1 H G Z) _ _ _ _ _ _ _ _) rfl (F.gate _) (F.gate _) (F.gate _) (F.gate _) rfl (.nil _)

theorem mix (y) : View.canon (kernelRun0_C.sl.HS7_66 c i arg2 harg2 arg5 harg5 arg6 harg6 arg8 harg8 arg11 arg12 arg13 arg14 arg15 arg16 arg17 arg19 harg19 arg20 harg20 arg22 harg22 x0 x3 x4 x6 xs8 xs9 xs11) y
    = t.mix (y 0) (y 1) :=
  (mix_agree H G Z hi).canon (View.cover_of_tiledBy _ ![64, 128] (by sl_kernel_rfl) y)

end mix

section result

variable {arg3 : Memref sig .tc .vmem S1x1024x2304 .f32} {harg3 : arg3.IsWhole}
  {arg4 : Memref sig .tc .vmem S1x4x128x128 .f32} {harg4 : arg4.IsWhole}
  {arg7 arg10 : Memref sig .tc .vmem S1x1024x1024 .f32} {harg7 : arg7.IsWhole} {harg10 : arg10.IsWhole}
  {arg9 : Memref sig .tc .vmem S2x1024 .f32} {harg9 : arg9.IsWhole} {harg12 : arg12.IsWhole}
  {harg15 : arg15.IsWhole} {harg16 : arg16.IsWhole} {harg17 : arg17.IsWhole}
  {arg18 arg21 : Memref sig .tc .vmem S1024x1024 .bf16} {harg18 : arg18.IsWhole} {harg21 : arg21.IsWhole}
  {hc0 : ¬cond0_0 i} {hc1 : cond0_1 i} {x1 : Vec Ideal S1x1024x2304 .f32} {x2 : Vec Ideal S1x4x128x128 .f32}
  {x5 : Vec Ideal S1x1024x1024 .f32}
  (hi : (i 1 : ℕ) = 0)

include H G Z hi

theorem out_agree : Agrees (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs8 xs9 xs10 xs11).1 fun y => t.out (y 1) (y 2) := by
  have O (i0) (n d : Fin 1024) := (readAt2 (Val := Elt Ideal) (S := t.WO) (m := 1024) (n := 1024) (a := 0) (b := 0) arg21.view
    (harg21.unread xs10) (read_whole2 (Val := Elt Ideal) (S := t.WO) arg21.view _ xs10 (harg21.read_unread _) G.wo) i0 n d).trans
      (by rw [Nat.zero_add, Nat.zero_add])
  refine .cons3 (Val := Elt Ideal) (e := .f32) (S := fun _ r d => t.out r d) ?_ ?_
  · exact out_rows (mix H G Z hi) H (O _) _ _ _
  refine .cons3 (Val := Elt Ideal) (e := .f32) (S := fun _ r d => t.out r d) ?_ (.nil _)
  exact out_rows (mix H G Z hi) H (O _) _ _ _

theorem out (r d : Fin 1024) : out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs8 xs9 xs10 xs11 (ix3 0 r d) = t.out r d :=
  (out_agree H G Z hi).writes VO0_8 VO0_8.junk (.inl (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs8 xs9 xs10 xs11 (ix3 0 r d)))

omit hi in
/-- What it hands to the next tile. -/
theorem halo {t' : Tile} (hu : ∀ p n, p < 16 → t'.HU p n = t.U (1024 + p) n)
    (hk : ∀ i p l, p < 128 → t'.HK i p l = t.buf.K i (1024 + p) l) (hv : ∀ l p, p < 128 → t'.HV l p = t.buf.V l (1024 + p)) :
    Halo t' (sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs8 xs9 xs10 xs11) (sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs8 xs9 xs10 xs11) (sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs8 xs9 xs10 xs11) where
  u r n hr := (halo_u (input H G Z) _ _ _ r n hr).trans (hu _ _ hr).symm
  k i r l hr := (halo_k (keys H G Z) _ _ _ i r l hr).trans (hk _ _ _ hr).symm
  v l r hr := (halo_v (values H G Z) _ _ _ l r hr).trans (hv _ _ hr).symm

end result

end Cert.Layer.C

end
-- ==== Proof.Points.lean ====
/-
  The grid's points: what the points leave is the two tiles of each batch.
-/
module

public import proofs.«01_k».proof.Proof.Args
public import proofs.«01_k».proof.Proof.CaseA
public import proofs.«01_k».proof.Proof.CaseB
public import proofs.«01_k».proof.Proof.CaseC
public import Idealize.ShloMosaic.Lib.Pipeline.ValueKit.Geometry

@[expose] public section

set_option maxRecDepth 16384

noncomputable section

namespace Cert.Layer

open Idealize.ShloMosaic Idealize.ShloMosaic.TcCoe
open Cert.KernelIdeal Cert.KernelIdeal.Gen

variable (m : (ℓ : Loc nD τ sig) → Buf (Elt Ideal) ℓ) (c : Dev nD)

/-- The kernel's arguments by coordinates: the second layer's part of each. -/
def argsOf : Args where
  X := ext3 (m ((c : Thread nD τ).loc main_arg0))
  W := ext3 (m ((c : Thread nD τ).loc main_arg1)) 1
  P := ext4 (m ((c : Thread nD τ).loc main_arg2)) 1
  PS := ext2 (m ((c : Thread nD τ).loc main_arg3)) 1
  SK := ext2 (m ((c : Thread nD τ).loc main_arg4)) 1
  WO := ext3 (m ((c : Thread nD τ).loc main_arg5)) 1
  GP := ext2 (m ((c : Thread nD τ).loc main_arg6)) 1
  GO := ext2 (m ((c : Thread nD τ).loc main_arg7)) 1

theorem places : ∀ t : Fin cfg0.N, (win0_0.index t (0 : Fin 3) = t.val / 2 ∧ win0_0.index t (1 : Fin 3) = t.val % 2
      ∧ win0_0.index t (2 : Fin 3) = 0)
    ∧ (win0_1.index t (0 : Fin 3) = 1 ∧ win0_1.index t (1 : Fin 3) = 0 ∧ win0_1.index t (2 : Fin 3) = 0)
    ∧ (win0_2.index t (0 : Fin 4) = 1 ∧ win0_2.index t (1 : Fin 4) = 0 ∧ win0_2.index t (2 : Fin 4) = 0
      ∧ win0_2.index t (3 : Fin 4) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 1 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem coords_val : ∀ t : Fin cfg0.N, (grid0.coords t 0).val = t.val / 2 ∧ (grid0.coords t 1).val = t.val % 2 :=
  (by decide +kernel : ∀ t : Fin grid0.N, _)

theorem point_lt (t : Fin cfg0.N) : t.val < 16 := lt_of_lt_of_eq t.isLt N_0

theorem block0 (t : Fin cfg0.N) (i : Fin 1) (r d : Fin 1024) :
    iblk m c 0 t (ix3 i r d) = (argsOf m c).X (t.val / 2) (1024 * (t.val % 2) + r) d := by
  have ht := point_lt t
  refine Eq.trans ?_ (ext3_of (A := 8) (B := 2048) (C := 1024) (m ((c : Thread nD τ).loc main_arg0)) (a := t.val / 2)
    (b := 1024 * (t.val % 2) + r) (c := d) (by omega) (by omega) (by omega))
  blk_ext [iblk, V, places t]

theorem block1 (t : Fin cfg0.N) (i : Fin 1) (d : Fin 1024) (n : Fin 2304) :
    iblk m c 1 t (ix3 i d n) = (argsOf m c).W d n := by
  refine Eq.trans ?_ (ext3_of (A := 2) (B := 1024) (C := 2304) (m ((c : Thread nD τ).loc main_arg1)) (a := 1)
    (b := d) (c := n) (by omega) (by omega) (by omega))
  blk_ext [iblk, V, places t]

theorem block2 (t : Fin cfg0.N) (g : Fin 4) (a b : Fin 128) :
    iblk m c 2 t (ix4 0 g a b) = (argsOf m c).P g a b := by
  refine Eq.trans ?_ (ext4_of (A := 2) (B := 4) (C := 128) (D := 128) (m ((c : Thread nD τ).loc main_arg2)) (a := 1)
    (b := g) (c := a) (d := b) (by omega) (by omega) (by omega) (by omega))
  blk_ext [iblk, V, places t]

theorem block3 (t : Fin cfg0.N) (n : Fin 512) : iblk m c 3 t (ix2 1 n) = (argsOf m c).PS n := by
  refine Eq.trans ?_ (ext2_of (A := 2) (B := 512) (m ((c : Thread nD τ).loc main_arg3)) (a := 1) (b := n) (by omega) (by omega))
  blk_ext [iblk, V, places t]

theorem block4 (t : Fin cfg0.N) (n : Fin 8) : iblk m c 4 t (ix2 1 n) = (argsOf m c).SK n := by
  refine Eq.trans ?_ (ext2_of (A := 2) (B := 8) (m ((c : Thread nD τ).loc main_arg4)) (a := 1) (b := n) (by omega) (by omega))
  blk_ext [iblk, V, places t]

theorem block5 (t : Fin cfg0.N) (i : Fin 1) (n d : Fin 1024) :
    iblk m c 5 t (ix3 i n d) = (argsOf m c).WO n d := by
  refine Eq.trans ?_ (ext3_of (A := 2) (B := 1024) (C := 1024) (m ((c : Thread nD τ).loc main_arg5)) (a := 1)
    (b := n) (c := d) (by omega) (by omega) (by omega))
  blk_ext [iblk, V, places t]

theorem block6 (t : Fin cfg0.N) (n : Fin 1024) : iblk m c 6 t (ix2 1 n) = (argsOf m c).GP n := by
  refine Eq.trans ?_ (ext2_of (A := 2) (B := 1024) (m ((c : Thread nD τ).loc main_arg6)) (a := 1) (b := n) (by omega) (by omega))
  blk_ext [iblk, V, places t]

theorem block7 (t : Fin cfg0.N) (n : Fin 1024) : iblk m c 7 t (ix2 1 n) = (argsOf m c).GO n := by
  refine Eq.trans ?_ (ext2_of (A := 2) (B := 1024) (m ((c : Thread nD τ).loc main_arg7)) (a := 1) (b := n) (by omega) (by omega))
  blk_ext [iblk, V, places t]

theorem inputs_first (t : Fin cfg0.N) (h : t.val % 2 = 0) : Inputs ((argsOf m c).first (t.val / 2)) (iblk m c 0 t) (iblk m c 3 t)
    (iblk m c 4 t) (iblk m c 6 t) (iblk m c 7 t) where
  x0 i r d := (block0 m c t i r d).trans (by rw [h, Nat.mul_zero, Nat.zero_add]; rfl)
  x3 := block3 m c t
  x4 := block4 m c t
  x6 := block6 m c t
  x7 := block7 m c t

theorem inputs_second (t : Fin cfg0.N) (h : t.val % 2 = 1) : Inputs ((argsOf m c).second (t.val / 2)) (iblk m c 0 t) (iblk m c 3 t)
    (iblk m c 4 t) (iblk m c 6 t) (iblk m c 7 t) where
  x0 i r d := (block0 m c t i r d).trans (by rw [h, Nat.mul_one]; rfl)
  x3 := block3 m c t
  x4 := block4 m c t
  x6 := block6 m c t
  x7 := block7 m c t

theorem raw (t : Fin cfg0.N) (b : ℕ) : Raw ((argsOf m c).first b) (iblk m c 1 t) (iblk m c 2 t) (iblk m c 5 t)
    (argsOf m c).W (argsOf m c).P (argsOf m c).WO where
  x1 := block1 m c t
  x2 := block2 m c t
  x5 := block5 m c t
  bi _ _ _ := rfl
  wi _ _ := rfl
  wo _ _ := rfl
  pw _ _ _ := rfl

/-- The tables are the same for every tile. -/
theorem Tables.of {t t' : Tile} {xs8 xs9 xs10 xs11} (h : Tables t xs8 xs9 xs10 xs11) (hb : t'.BI = t.BI) (hi : t'.WI = t.WI)
    (ho : t'.WO = t.WO) (hp : t'.PW = t.PW) : Tables t' xs8 xs9 xs10 xs11 where
  bias f r j := (h.bias f r j).trans (congrFun (congrFun (congrFun hb _) _) _).symm
  wi d n := (h.wi d n).trans (congrFun (congrFun hi _) _).symm
  wo n d := (h.wo n d).trans (congrFun (congrFun ho _) _).symm
  pw i a b := (h.pw i a b).trans (congrFun (congrFun (congrFun hp _) _) _).symm

/-- What a point leaves. -/
structure Left (a : Args) (n : ℕ) (s : Vec Ideal S1x1024x1024 .f32 × Vec Ideal S1040x512 .f32 × Vec Ideal S2x1152x128 .bf16
    × Vec Ideal S128x1152 .bf16 × Vec Ideal S3x384x256 .f32 × Vec Ideal S1024x2304 .bf16 × Vec Ideal S1024x1024 .bf16
    × Vec Ideal S2x256x256 .bf16) : Prop where
  tables : Tables (a.first 0) s.2.2.2.2.1 s.2.2.2.2.2.1 s.2.2.2.2.2.2.1 s.2.2.2.2.2.2.2
  halo : n % 2 = 0 → Halo (a.second (n / 2)) s.2.1 s.2.2.1 s.2.2.2.1
  out : ∀ r d : Fin 1024, s.1 (ix3 0 r d) = (a.tile (n / 2) (n % 2)).out r d

open Cert.KernelIdeal.Value

theorem tile_first {a : Args} {b n : ℕ} (h : n = 0) : a.tile b n = a.first b := if_pos h

theorem tile_second {a : Args} {b n : ℕ} (h : ¬n = 0) : a.tile b n = a.second b := if_neg h

theorem left_start (t : Fin cfg0.N) (acc) (h0 : t.val % 16 = 0) (h1 : t.val % 2 = 0) :
    Left (argsOf m c) t.val (stAt0 m c t.val t.isLt acc) := by
  rw [stAt0_A m c t acc h0 h1]
  have hi : ((grid0.coords t) 1 : ℕ) = 0 := (coords_val t).2.trans h1
  have H := inputs_first m c t h1
  have G := raw m c t (t.val / 2)
  have Z := (argsOf m c).first_fresh (t.val / 2)
  refine ⟨?_, fun _ => ?_, fun r d => ?_⟩
  · dsimp only
    exact A.kept (t' := (argsOf m c).first 0) G rfl rfl rfl rfl
  · dsimp only
    exact A.halo H G Z (fun _ _ _ => rfl) (fun _ _ _ _ => rfl) (fun _ _ _ => rfl)
  · dsimp only
    refine (A.out H G Z hi r d).trans (congrArg (fun u : Tile => u.out r d) (tile_first h1).symm)

theorem left_first (t : Fin cfg0.N) (acc) (h0 : ¬t.val % 16 = 0) (h1 : t.val % 2 = 0)
    (T : Tables ((argsOf m c).first 0) acc.2.2.2.2.1 acc.2.2.2.2.2.1 acc.2.2.2.2.2.2.1 acc.2.2.2.2.2.2.2) :
    Left (argsOf m c) t.val (stAt0 m c t.val t.isLt acc) := by
  rw [stAt0_C m c t acc h0 h1]
  have hi : ((grid0.coords t) 1 : ℕ) = 0 := (coords_val t).2.trans h1
  have H := inputs_first m c t h1
  have G := T.of (t' := (argsOf m c).first (t.val / 2)) rfl rfl rfl rfl
  have Z := (argsOf m c).first_fresh (t.val / 2)
  refine ⟨?_, fun _ => ?_, fun r d => ?_⟩
  · dsimp only
    exact T
  · dsimp only
    exact C.halo H G Z (fun _ _ _ => rfl) (fun _ _ _ _ => rfl) (fun _ _ _ => rfl)
  · dsimp only
    refine (C.out H G Z hi r d).trans (congrArg (fun u : Tile => u.out r d) (tile_first h1).symm)

theorem left_second (t : Fin cfg0.N) (acc) (h0 : ¬t.val % 16 = 0) (h1 : ¬t.val % 2 = 0)
    (T : Tables ((argsOf m c).first 0) acc.2.2.2.2.1 acc.2.2.2.2.2.1 acc.2.2.2.2.2.2.1 acc.2.2.2.2.2.2.2)
    (W : Halo ((argsOf m c).second (t.val / 2)) acc.2.1 acc.2.2.1 acc.2.2.2.1) :
    Left (argsOf m c) t.val (stAt0 m c t.val t.isLt acc) := by
  rw [stAt0_B m c t acc h0 h1]
  have h1' : t.val % 2 = 1 := by omega
  have hi : ((grid0.coords t) 1 : ℕ) = 1 := (coords_val t).2.trans h1'
  have H := inputs_second m c t h1'
  have G := T.of (t' := (argsOf m c).second (t.val / 2)) rfl rfl rfl rfl
  refine ⟨?_, fun h => absurd h h1, fun r d => ?_⟩
  · dsimp only
    exact T
  dsimp only
  refine (B.out H G W hi.symm hi r d).trans (congrArg (fun u : Tile => u.out r d) (tile_second h1).symm)

/-- After every point. -/
theorem left_all : ∀ (n : ℕ) (hn : n < cfg0.N), Left (argsOf m c) n (outsAt0 m c n hn)
  | 0, hn => by
    rw [outsAt0_zero]
    exact left_start m c ⟨0, hn⟩ _ rfl rfl
  | n + 1, hn => by
    have ih := left_all n (Nat.lt_of_succ_lt hn)
    have hN : n + 1 < 16 := lt_of_lt_of_eq hn N_0
    have h0 : ¬(n + 1) % 16 = 0 := by omega
    rw [outsAt0_succ]
    by_cases h1 : (n + 1) % 2 = 0
    · exact left_first m c ⟨n + 1, hn⟩ _ h0 h1 ih.tables
    · have e : (n + 1) / 2 = n / 2 := by omega
      exact left_second m c ⟨n + 1, hn⟩ _ h0 h1 ih.tables (e ▸ ih.halo (by omega))

/-- The kernel's result. -/
theorem result_apply (b : Fin 8) (s : Fin 2048) (d : Fin 1024) :
    G8 m c (ix3 b s d) = ((argsOf m c).tile b (s / 1024)).out (s % 1024) d := by
  have hp : pt8Of (ix3 b s d) = 2 * b + s / 1024 := by
    show 2 * ((b : ℕ) / 1 - 0) + 1 * ((s : ℕ) / 1024 - 0) + 1 * ((d : ℕ) / 1024 - 0) = _
    omega
  have hN : pt8Of (ix3 b s d) < cfg0.N := by
    rw [hp, show cfg0.N = 16 from N_0]
    omega
  have hl : loc8Of (ix3 b s d) = ix3 0 ⟨s % 1024, by omega⟩ d := by
    funext i
    fin_cases i
    · exact Subsingleton.elim (α := Fin 1) _ _
    · rfl
    · exact Fin.ext (Nat.mod_eq_of_lt d.isLt)
  rw [G8, dif_pos hN, ← outsAt0_sweep m c _ hN, hl, (left_all m c _ hN).out, hp, show (2 * (b : ℕ) + s / 1024) / 2 = b by omega,
    show (2 * (b : ℕ) + s / 1024) % 2 = s / 1024 by omega]

end Cert.Layer

end
-- ==== Proof.Given.lean ====
/-
  The precondition, read at an element: the arrays that the scores are made of are finite.
-/
module

public import proofs.«01_k».proof.Defs
public import proofs.«01_k».proof.Proof.Points
public import proofs.«01_k».proof.Proof.Attn
public import Idealize.ShloMosaic.Lib.Pointwise

@[expose] public section

set_option maxRecDepth 16384

noncomputable section

namespace Cert.Layer

open Idealize.ShloMosaic Idealize.ShloMosaic.TcCoe

theorem pre_facts : Cert.Pre_finite.Facts := ⟨by decide, by decide, by decide⟩

/-- A number whose absolute value is below infinity is real. -/
theorem real_of_abs_lt {z : EReal} (h : max z (-z) < ⊤) : ∃ y : ℝ, z = y := by
  induction z using EReal.rec with
  | bot => simp at h
  | coe y => exact ⟨y, rfl⟩
  | top => simp at h

/-- The precondition's test of one number. -/
theorem real_of_test {z : EReal}
    (h : FloatOps.cmpf (F := Ideal) (φ := .f32) .olt (FloatOps.hostAbsf (F := Ideal) (φ := .f32) z)
      (FloatOps.ofBits (F := Ideal) .f32 0x7F800000#32) = 1#1) : ∃ y : ℝ, z = y := by
  have e : Ideal.ofBits .f32 0x7F800000#32 = ⊤ := by simp [Ideal.ofBits, Ideal.ieee]
  have h' : BitVec.ofBool (decide (max z (-z) < Ideal.ofBits .f32 0x7F800000#32)) = 1#1 := h
  rw [e] at h'
  refine real_of_abs_lt ?_
  by_contra n
  rw [decide_eq_false n] at h'
  exact absurd h' (by decide)

theorem real_ext2 {A B : ℕ} {f : (⟨2, ![A, B]⟩ : Shape).Idx → EReal} (h : ∀ i, ∃ y : ℝ, f i = y) (a b : ℕ) :
    ∃ y : ℝ, ext2 f a b = y := by
  unfold ext2
  split
  · exact h _
  · exact ⟨0, rfl⟩

theorem real_ext3 {A B C : ℕ} {f : (⟨3, ![A, B, C]⟩ : Shape).Idx → EReal} (h : ∀ i, ∃ y : ℝ, f i = y) (a b c : ℕ) :
    ∃ y : ℝ, ext3 f a b c = y := by
  unfold ext3
  split
  · exact h _
  · exact ⟨0, rfl⟩

open Cert.KernelIdeal in
theorem finite_of_pre {m : (ℓ : Loc nD τ sig) → Buf (Elt Ideal) ℓ}
    (h : Cert.Pre_KernelIdeal_finite (hPre_finite := pre_facts) m) (c : Dev nD) : (argsOf m c).Finite where
  W := real_ext3 (fun i => real_of_test (congrFun (h c).1 i)) 1
  SK := real_ext2 (fun i => real_of_test (congrFun (h c).2.1 i)) 1
  GP := real_ext2 (fun i => real_of_test (congrFun (h c).2.2 i)) 1

end Cert.Layer

end
-- ==== Proof.lean ====
/-
  The certificate of one layer: frames of the kernel, of its idealization and of the reference, the three
  constants that the idealization names, and the equality of the idealized kernel and the reference where the arrays
  that the scores are made of are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Layer
public import proofs.«01_k».proof.Proof.Ref
public import proofs.«01_k».proof.Proof.Given
public import Idealize.ShloMosaic.Adequacy
public import Idealize.ShloMosaic.Init

@[expose] public section

noncomputable section

namespace Cert.Proof

open Idealize.ShloMosaic Idealize.ShloMosaic.StableHlo Idealize.SL.Sem

/-- The kernel terminates on every memory, keeps its arguments and leaves every semaphore at zero. -/
theorem kernel_frame : Cert.quiescent_Kernel (hKernel := Cert.Kernel.Gen.facts) :=
  fun m g _ => Cert.Kernel.Gen.frame m g

/-- The same of the idealized kernel. -/
theorem kernelIdeal_frame : Cert.quiescent_KernelIdeal (hKernelIdeal := Cert.KernelIdeal.Gen.facts) :=
  fun m g _ => Cert.KernelIdeal.Gen.frame m g

/-- The same of the reference, which has no semaphore at all. -/
theorem reference_frame : Cert.quiescent_ReferenceIdeal (hReferenceIdeal := Cert.ReferenceIdeal.Gen.facts) :=
  fun m g _ => (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- Each named constant of the idealization is the constant that its float literal rounds. -/
theorem preserved : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "qscale" .f32 0x3E38AA3B#32
      ((8⁻¹ * (Real.log 2)⁻¹ : ℝ) : EReal) rfl⟩

/-- Memories that agree on the arguments give both programs the same arguments. -/
theorem args_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD}
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    Layer.refArgs (launchContents m' c) = Layer.argsOf m c := by
  unfold Layer.refArgs Layer.argsOf
  exact congr (congr (congr (congr (congr (congr (congr (congrArg Layer.Args.mk (congrArg Layer.ext3 h0))
    (congrArg (Layer.ext3 · 1) h1)) (congrArg (Layer.ext4 · 1) h2)) (congrArg (Layer.ext2 · 1) h3))
    (congrArg (Layer.ext2 · 1) h4)) (congrArg (Layer.ext3 · 1) h5)) (congrArg (Layer.ext2 · 1) h6))
    (congrArg (Layer.ext2 · 1) h7)

/-- The idealized kernel and the reference end with the same result. -/
theorem equal : Cert.algebraic_KernelIdeal_ReferenceIdeal_pre_finite (hKernelIdeal := Cert.KernelIdeal.Gen.facts)
    (hReferenceIdeal := Cert.ReferenceIdeal.Gen.facts) (hPre_finite := Layer.pre_facts) := by
  intro m g m' g' hp hm
  refine ⟨fun c => Cert.KernelIdeal.Value.G8 m c, Cert.KernelIdeal.Value.run (F := Ideal) m g, ?_⟩
  refine (θ_run (Cert.ReferenceIdeal.defs (F := Ideal)) _ _).mono (fun _ h c => ⟨(h c).1.trans ?_, (h c).2⟩)
    (Cert.ReferenceIdeal.Value.run (F := Ideal) m' g')
  obtain ⟨h0, h1, h2, h3, h4, h5, h6, h7⟩ := hm c
  refine funext fun i => ?_
  obtain ⟨b, s, d, rfl⟩ : ∃ (b : Fin 8) (s : Fin 2048) (d : Fin 1024), i = ix3 b s d := ⟨i 0, i 1, i 2, (ix3_eta i).symm⟩
  refine (Layer.ref_apply (launchContents m' c) b s d).trans ?_
  rw [args_eq h0 h1 h2 h3 h4 h5 h6 h7, ← Layer.tile_out (Layer.finite_of_pre hp c) s.isLt]
  exact (Layer.result_apply m c b s d).symm

theorem claim : Cert.Claim := ⟨Cert.Kernel.Gen.facts, Cert.KernelIdeal.Gen.facts, Cert.ReferenceIdeal.Gen.facts,
  Layer.pre_facts, kernel_frame, kernelIdeal_frame, fun m g _ => kernelIdeal_frame m g trivial, reference_frame,
  fun m g _ => reference_frame m g trivial, preserved, equal⟩

end Cert.Proof

end
